-- ==== Defs.lean ====
def Pre_Kernel [hPre_words_named : Cert.Pre_words_named.Facts] (m : (ℓ : Loc Cert.Kernel.nD Cert.Kernel.τ Cert.Kernel.sig) → Buf (Elt Bits) ℓ) : Prop :=
  ∀ c : Dev Cert.Kernel.nD,
    (Cert.Pre_words_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_words_named : Cert.Pre_words_named.Facts] (m : (ℓ : Loc Cert.KernelIdeal.nD Cert.KernelIdeal.τ Cert.KernelIdeal.sig) → Buf (Elt Ideal) ℓ) : Prop :=
  ∀ c : Dev Cert.KernelIdeal.nD,
    (Cert.Pre_words_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_named [hPre_words_named : Cert.Pre_words_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_words_named : Cert.Pre_words_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_words_named : Cert.Pre_words_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_words_named [hReferenceIdeal : Cert.ReferenceIdeal.Facts] [hPre_words_named : Cert.Pre_words_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_named : Cert.Pre_words_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_named : Cert.Pre_words_named.Facts),
    quiescent_Kernel (hKernel := hKernel) (hPre_words_named := hPre_words_named)
    ∧ quiescent_KernelIdeal (hKernelIdeal := hKernelIdeal) (hPre_words_named := hPre_words_named)
    ∧ quiescent_ReferenceIdeal (hReferenceIdeal := hReferenceIdeal)
    ∧ quiescent_ReferenceIdeal_pre_words_named (hReferenceIdeal := hReferenceIdeal) (hPre_words_named := hPre_words_named)
    ∧ preserves_Kernel_KernelIdeal
    ∧ algebraic_KernelIdeal_ReferenceIdeal (hKernelIdeal := hKernelIdeal) (hReferenceIdeal := hReferenceIdeal) (hPre_words_named := hPre_words_named)
-- ==== Pre_words_named.lean ====
abbrev S16384 : Shape := ⟨1, ![16384]⟩
abbrev S100000x128 : Shape := ⟨2, ![100000, 128]⟩
abbrev S1000x128 : Shape := ⟨2, ![1000, 128]⟩
abbrev S1000 : Shape := ⟨1, ![1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S100000x128 .f32) (main_arg2 : FVec F S1000x128 .f32) (main_arg3 : FVec F S1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S100000x128 : Shape := ⟨2, ![100000, 128]⟩
abbrev S1000x128 : Shape := ⟨2, ![1000, 128]⟩
abbrev S1000 : Shape := ⟨1, ![1000]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S1x1000 : Shape := ⟨2, ![1, 1000]⟩
abbrev S16384x1000 : Shape := ⟨2, ![16384, 1000]⟩
abbrev S1024x128 : Shape := ⟨2, ![1024, 128]⟩
abbrev S1024x1000 : Shape := ⟨2, ![1024, 1000]⟩
abbrev S1024 : Shape := ⟨1, ![1024]⟩
abbrev S1024x1 : Shape := ⟨2, ![1024, 1]⟩

abbrev nBuf : Table → Nat
  | .hbm => 7
  | .local .tc .vmem => 6
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S1000x128, .f32⟩
  | .hbm, ⟨3, _⟩ => ⟨S1000, .f32⟩
  | .hbm, ⟨4, _⟩ => ⟨S16384x128, .f32⟩
  | .hbm, ⟨5, _⟩ => ⟨S1x1000, .f32⟩
  | .hbm, ⟨6, _⟩ => ⟨S16384x1000, .f32⟩
  | .local .tc .vmem, ⟨0, _⟩ => ⟨S1024x128, .f32⟩
  | .local .tc .vmem, ⟨1, _⟩ => ⟨S1024x128, .f32⟩
  | .local .tc .vmem, ⟨2, _⟩ => ⟨S1000x128, .f32⟩
  | .local .tc .vmem, ⟨3, _⟩ => ⟨S1x1000, .f32⟩
  | .local .tc .vmem, ⟨4, _⟩ => ⟨S1024x1000, .f32⟩
  | .local .tc .vmem, ⟨5, _⟩ => ⟨S1024x1000, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S1000x128 : Shape := ⟨2, ![1000, 128]⟩
abbrev S1000 : Shape := ⟨1, ![1000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S128x1000 : Shape := ⟨2, ![128, 1000]⟩
abbrev S16384x1000 : Shape := ⟨2, ![16384, 1000]⟩
abbrev S1x1000 : Shape := ⟨2, ![1, 1000]⟩

abbrev nBuf : Space → Nat
  | .hbm => 47
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S1000x128, .f32⟩
  | .hbm, ⟨3, _⟩ => ⟨S1000, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S128x1000, .f32⟩
  | .hbm, ⟨28, _⟩ => ⟨S16384x1000, .f32⟩
  | .hbm, ⟨29, _⟩ => ⟨S1x1000, .f32⟩
  | .hbm, ⟨30, _⟩ => ⟨S16384x1000, .f32⟩
  | .hbm, ⟨31, _⟩ => ⟨S16384x1000, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x1000, .f32⟩
  | .hbm, ⟨39, _⟩ => ⟨S16384x1000, .f32⟩
  | .hbm, ⟨40, _⟩ => ⟨S16384x1000, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1, .f32⟩
  | .hbm, ⟨45, _⟩ => ⟨S16384x1000, .f32⟩
  | .hbm, ⟨46, _⟩ => ⟨S16384x1000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v6 : Ref sig .tc := ⟨.hbm, 46, rfl⟩

abbrev nD : Nat := 1
abbrev τ : Topo := Topo.v7x

variable {F : FTy → Type} [FloatOps F]
-- ==== Proof.Words.lean ====
/-
  What the precondition says of the row numbers: each is below the table's 100000 rows.
-/
module

public import proofs.«01_k».proof.Defs
public import proofs.«01_k».proof.Proof.Gen.Pre_words_named
public import Idealize.ShloMosaic.Lib.ReduceAll
public import Idealize.ShloMosaic.Lib.WordCmp

@[expose] public section

noncomputable section

namespace Cert.Proof

open Idealize.ShloMosaic Idealize.ShloMosaic.WordCmp Cert.Pre_words_named Cert.Pre_words_named.Gen

/-- A word at least 0 and less than 100000, both signed, is a number less than 100000. -/
theorem word_lt (v : BitVec 32) (h : IntOp.andi (IntOp.cmpi .sge v 0#32) (IntOp.cmpi .slt v 100000#32) = 1#1) : v.toNat < 100000 := by
  simp only [IntOp.cmpi, andi_ofBool, ofBool_eq_one_iff, Bool.and_eq_true, BitVec.sle_eq_decide, BitVec.slt_eq_decide, decide_eq_true_eq,
    BitVec.toInt_eq_toNat_cond, BitVec.toNat_ofNat, Nat.reducePow, Nat.reduceMod] at h
  omega

/-- The predicate's one result names one index. -/
theorem one_index (i j : S_.Idx) : i = j := funext fun a => a.elim0

/-- Where the predicate is all ones, every row number is less than 100000. -/
theorem words_lt {F : FTy → Type} [FloatOps F] (x : IVec S16384 32) (e : FVec F S100000x128 .f32) (w : FVec F S1000x128 .f32) (b : FVec F S1000 .f32)
    (h : fn x e w b = fun _ => 1#1) (j : S16384.Idx) : (x j).toNat < 100000 := by
  haveI : Subsingleton S_.Idx := ⟨one_index⟩
  have h0 := congrFun h (fun a => a.elim0)
  simp only [fn] at h0
  exact word_lt _ (Host.reduce_andi_all _ _ _ _ _ h0 j)

end Cert.Proof

end
-- ==== Proof.KernelIdealTile.lean ====
/-
  The SparseCore half of the kernel: thirty-two tasks, one on each vector subcore of the two SparseCores. Task `(c, s)`
  copies its 512 row numbers (those at `1024 s + 512 c` onward) into its index scratch, gathers those rows of the table
  into its row scratch, and copies the rows to the same 512 rows of the embedding array. This module states what a task
  is handed and what it hands back, and proves that a task hands back its rows of the embedding array holding exactly the
  table rows its row numbers name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_call : (K (F := F)).nCore 0 = 2 := rfl
theorem nSub_call : (K (F := F)).nSub 0 = 16 := rfl

/-- The side conditions of a SparseCore launch, each read off the signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The row numbers, the table and the embedding array. -/
abbrev txtLoc (d : Dev nD) : Loc nD τ sig := (SparseCore.T d).loc main_arg0
abbrev tabLoc (d : Dev nD) : Loc nD τ sig := (SparseCore.T d).loc main_arg1
abbrev embLoc (d : Dev nD) : Loc nD τ sig := (SparseCore.T d).loc main_v0

abbrev txtV : Memref Cert.KernelIdeal.sig Kind.scVector Space.hbm Cert.KernelIdeal.S16384 EltTy.i32 := Memref.whole Cert.KernelIdeal.main_arg0_scv
abbrev tabV : Memref Cert.KernelIdeal.sig Kind.scVector Space.hbm Cert.KernelIdeal.S100000x128 EltTy.f32 := Memref.whole Cert.KernelIdeal.main_arg1_scv
abbrev embV : Memref Cert.KernelIdeal.sig Kind.scVector Space.hbm Cert.KernelIdeal.S16384x128 EltTy.f32 := Memref.whole Cert.KernelIdeal.main_v0_scv
abbrev idxV : Memref Cert.KernelIdeal.sig Kind.scVector Space.vmem Cert.KernelIdeal.S512 EltTy.i32 := Memref.whole Cert.KernelIdeal.cc0_scratch0
abbrev rowV : Memref Cert.KernelIdeal.sig Kind.scVector Space.vmem Cert.KernelIdeal.S512x128 EltTy.f32 := Memref.whole Cert.KernelIdeal.cc0_scratch1

/-- The table's element in column `j` of the row the word `w` names. -/
def tabIdx (w : BitVec 32) (j : Fin 128) : S100000x128.Idx
  | 0 => ⟨w.toNat % 100000, Nat.mod_lt _ (by decide)⟩
  | 1 => j

/-- Position `r` of the row numbers. -/
def rowIx (r : Fin 16384) : S16384.Idx
  | 0 => r

/-- What the gather makes of the embedding array: row `r` is the table's row that row number `r` names. -/
def gath (d : Dev nD) : Buf (Elt F) (embLoc d) :=
  fun j : S16384x128.Idx => m (tabLoc d) (tabIdx (m (txtLoc d) (rowIx (j 0))) (j 1))

/-- What the proof asks of the launch memory: every row number is a row of the table. -/
def PreOK : Prop := ∀ (d : Dev nD) (j : S16384.Idx), (m (txtLoc d) j : BitVec 32).toNat < 100000

/-! ## The cut of the arrays into thirty-two parts -/

theorem txt_div : 32 ∣ S16384.size 0 := ⟨512, rfl⟩
theorem emb_div : 32 ∣ S16384x128.size 0 := ⟨512, rfl⟩

/-- The part that task `(c, i)` works on. -/
def task (c : Fin 2) (i : Fin 16) : Fin 32 := ⟨2 * i.val + c.val, by omega⟩

theorem task_inj {c c' : Fin 2} {i i' : Fin 16} (h : task c i = task c' i') : c = c' ∧ i = i' := by
  have := congrArg Fin.val h
  simp only [task] at this
  exact ⟨Fin.ext (by omega), Fin.ext (by omega)⟩

abbrev txtRect (t : Fin 32) : Rect S16384 := Rect.part (s := S16384) (a₀ := 0) txt_div t
abbrev embRect (t : Fin 32) : Rect S16384x128 := Rect.part (s := S16384x128) (a₀ := 0) emb_div t
abbrev txtSet (c : Fin 2) (i : Fin 16) : Finset S16384.Idx := ((txtV).view.slice (txtRect (task c i))).set
abbrev embSet (c : Fin 2) (i : Fin 16) : Finset S16384x128.Idx := ((embV).view.slice (embRect (task c i))).set

/-- Task `(c, i)`'s share of the table, which every task reads whole. -/
abbrev tabShare (c : Fin 2) (i : Fin 16) : PosShare TreeShare :=
  pieceOf (pieceOf fullShare 2 (by decide) c) 16 (by decide) i

variable [FloatOps F]

/-! ## What the handshakes carry -/

abbrev txtPts (d : Dev nD) (c : Fin 2) (i : Fin 16) : sProp 𝕄 := txtLoc d ↦[txtSet c i]{fullShare} m (txtLoc d)
abbrev tabPts (d : Dev nD) (c : Fin 2) (i : Fin 16) : sProp 𝕄 := tabLoc d ↦{tabShare c i} m (tabLoc d)
abbrev embPts (d : Dev nD) (c : Fin 2) (i : Fin 16) (f : Buf (Elt F) (embLoc d)) : sProp 𝕄 := embLoc d ↦[embSet c i]{fullShare} f

/-- What task `(c, i)` holds of the three arrays, the embedding rows at contents `f`. -/
abbrev part (d : Dev nD) (f : Buf (Elt F) (embLoc d)) (c : Fin 2) (i : Fin 16) : sProp 𝕄 :=
  iprop(txtPts m d c i ∗ tabPts m d c i ∗ embPts d c i f)

/-- All tasks of SparseCore `c` at once. -/
abbrev coreParts (d : Dev nD) (f : Buf (Elt F) (embLoc d)) (c : Fin 2) : sProp 𝕄 :=
  bigSep Finset.univ fun i : Fin ((K (F := F)).nSub 0) => part m d f c (Fin.cast nSub_call i)

/-- The call hands each task its part with the embedding rows at their launch contents and takes it back with them gathered. -/
def P : (K (F := F)).Pay (nD := nD) (Val := Elt F) (Name := ℕ) (U := UU) where
  st := fun q d c => match q with | 0 => coreParts m d (m (embLoc d)) (Fin.cast nCore_call c)
  dn := fun q d c => match q with | 0 => coreParts m d (gath m d) (Fin.cast nCore_call c)
  go := fun q d c i => match q with | 0 => part m d (m (embLoc d)) (Fin.cast nCore_call c) (Fin.cast nSub_call i)
  td := fun q d c i => match q with | 0 => part m d (gath m d) (Fin.cast nCore_call c) (Fin.cast nSub_call i)
  x := fun _ _ => iprop(emp)

instance P_storable : (P (F := F) m).IsStorable where
  st q d c := match q with
    | 0 => (inferInstance : BI.Storable (upEmb : UEmb _ 𝕄) (coreParts m d (m (embLoc d)) (Fin.cast nCore_call c)))
  dn q d c := match q with
    | 0 => (inferInstance : BI.Storable (upEmb : UEmb _ 𝕄) (coreParts m d (gath m d) (Fin.cast nCore_call c)))
  go q d c i := match q with
    | 0 => (inferInstance : BI.Storable (upEmb : UEmb _ 𝕄) (part m d (m (embLoc d)) (Fin.cast nCore_call c) (Fin.cast nSub_call i)))
  td q d c i := match q with
    | 0 => (inferInstance : BI.Storable (upEmb : UEmb _ 𝕄) (part m d (gath m d) (Fin.cast nCore_call c) (Fin.cast nSub_call i)))

/-- A SparseCore's operands are its tasks' and its results are its tasks' results, so the split is the identity. -/
theorem vecSplit : (K (F := F)).VecSplit' (P m) 0 := by
  intro d c
  show coreParts m d (m (embLoc d)) (Fin.cast nCore_call c) ⊢ |={Set.univ}=> iprop(coreParts m d (m (embLoc d)) (Fin.cast nCore_call c)
      ∗ (coreParts m d (gath m d) (Fin.cast nCore_call c) -∗ coreParts m d (gath m d) (Fin.cast nCore_call c)))
  iintro H; imodintro
  isplitl [H]; · iexact H
  iintro H; iexact H

/-! ## One task -/

section Tile

variable (d : Dev nD) (L : grid0.Coords)

abbrev cV (L : grid0.Coords) : Fin τ.nSC := (L 0).castLE hcore0
abbrev sV (L : grid0.Coords) : Fin τ.nSub := (L 1).castLE hsub0
abbrev vthr : Thread nD τ := V d (cV L) (sV L)
omit [FloatOps F] in
theorem bound_core : grid0.bound 0 = 2 := rfl
omit [FloatOps F] in
theorem bound_sub : grid0.bound 1 = 16 := rfl
abbrev cL (L : grid0.Coords) : Fin 2 := Fin.cast bound_core (L 0)
abbrev sL (L : grid0.Coords) : Fin 16 := Fin.cast bound_sub (L 1)

abbrev txtRectK (L : grid0.Coords) : Rect S16384 := Rect.unit (s := S16384) (k0_off1 L) S512.size (k0_off1_inb L)
abbrev embRectK (L : grid0.Coords) : Rect S16384x128 := Rect.unit (s := S16384x128) (k0_off2 L) S512x128.size (k0_off2_inb L)
/-- The task's row numbers, its rows of the embedding array, and all of the table, as the task addresses them. -/
abbrev txtK (L : grid0.Coords) : Memref sig .scVector .hbm S512 .i32 := (txtV).slice (txtRectK L) (fun _ => rfl)
abbrev embK (L : grid0.Coords) : Memref sig .scVector .hbm S512x128 .f32 := (embV).slice (embRectK L) (fun _ => rfl)
abbrev tabK : Memref sig .scVector .hbm S100000x128 .f32 := (tabV).slice (Rect.unit (s := S100000x128) ![0, 0] S100000x128.size inb_S100000x128_S100000x128_0_0) (fun _ => rfl)

omit [FloatOps F] in
/-- The task's slice of the row numbers is its part. -/
theorem txtRectK_eq : txtRectK L = txtRect (task (cL L) (sL L)) := by
  unfold txtRectK txtRect Rect.part Rect.block
  congr 1 <;> funext a
  · rw [k0_off1_eq]
    match a with
    | 0 => simp [Shape.partIx, Shape.partSize, task]; omega
  · match a with
    | 0 => simp [Shape.partSize]
omit [FloatOps F] in
/-- The task's slice of the embedding array is its part. -/
theorem embRectK_eq : embRectK L = embRect (task (cL L) (sL L)) := by
  unfold embRectK embRect Rect.part Rect.block
  congr 1 <;> funext a
  · rw [k0_off2_eq]
    match a with
    | 0 => simp [Shape.partIx, Shape.partSize, task]; omega
    | 1 => simp [Shape.partIx, Shape.partSize]
  · match a with
    | 0 => simp [Shape.partSize]
    | 1 => simp [Shape.partSize]

omit [FloatOps F] in
theorem set_txtK : (txtK L).view.set = txtSet (cL L) (sL L) := by
  show ((txtV).view.slice (txtRectK L)).set = ((txtV).view.slice (txtRect (task (cL L) (sL L)))).set
  exact txtRectK_eq L ▸ rfl
omit [FloatOps F] in
theorem set_embK : (embK L).view.set = embSet (cL L) (sL L) := by
  show ((embV).view.slice (embRectK L)).set = ((embV).view.slice (embRect (task (cL L) (sL L)))).set
  exact embRectK_eq L ▸ rfl

omit [FloatOps F] in
theorem pts_txtK (f : Buf (Elt F) (txtLoc d)) :
    ((txtK L).view.loc (vthr d L) ↦[(txtK L).view.set]{fullShare} f : sProp 𝕄) = txtLoc d ↦[txtSet (cL L) (sL L)]{fullShare} f := by
  rw [set_txtK]
omit [FloatOps F] in
theorem pts_embK (f : Buf (Elt F) (embLoc d)) :
    ((embK L).view.loc (vthr d L) ↦[(embK L).view.set]{fullShare} f : sProp 𝕄) = embLoc d ↦[embSet (cL L) (sL L)]{fullShare} f := by
  rw [set_embK]
omit [FloatOps F] in
theorem pts_tabK (q : PosShare TreeShare) (f : Buf (Elt F) (tabLoc d)) :
    ((tabK).view.loc (vthr d L) ↦{q} f : sProp 𝕄) = tabLoc d ↦{q} f := rfl
omit [FloatOps F] in
theorem pts_idxV (f : Buf (Elt F) ((vthr d L).loc cc0_scratch0)) :
    ((idxV).view.loc (vthr d L) ↦{fullShare} f : sProp 𝕄) = (vthr d L).loc cc0_scratch0 ↦{fullShare} f := rfl
omit [FloatOps F] in
theorem pts_rowV (f : Buf (Elt F) ((vthr d L).loc cc0_scratch1)) :
    ((rowV).view.loc (vthr d L) ↦{fullShare} f : sProp 𝕄) = (vthr d L).loc cc0_scratch1 ↦{fullShare} f := rfl

abbrev gatCell (t : Thread nD τ) : GSem nD τ sig := (t, .dma cc0_scratch2.sem)
abbrev inCell (t : Thread nD τ) : GSem nD τ sig := (t, .dma cc0_scoped0.sem)
abbrev outCell (t : Thread nD τ) : GSem nD τ sig := (t, .dma cc0_scoped1.sem)

omit [FloatOps F] in
/-- The task's three semaphores are among the subcore's own, at zero. -/
theorem ownSems0_V :
    (ownSems0 (vthr d L) : sProp 𝕄)
      = iprop(semVal (gatCell (vthr d L)) 0 ∗ semVal (inCell (vthr d L)) 0 ∗ semVal (outCell (vthr d L)) 0
          ∗ bigSep ((((ownCells (vthr d L)).erase (gatCell (vthr d L))).erase (inCell (vthr d L))).erase (outCell (vthr d L))) fun g => semVal g 0) := by
  unfold SparseCore.Cfg.ownSems0
  rw [SparseCore.bigSep_erase' ((mem_ownCells (g := gatCell (vthr d L))).mpr ⟨rfl, by
      show (SemLoc.dma cc0_scratch2.sem : SemLoc sig).isScoped .scVector = true; decide⟩),
    SparseCore.bigSep_erase' (Finset.mem_erase.mpr ⟨by simp [gatCell, inCell]; decide, (mem_ownCells (g := inCell (vthr d L))).mpr ⟨rfl, by
      show (SemLoc.dma cc0_scoped0.sem : SemLoc sig).isScoped .scVector = true; decide⟩⟩),
    SparseCore.bigSep_erase' (Finset.mem_erase.mpr ⟨by simp [inCell, outCell]; decide, Finset.mem_erase.mpr ⟨by simp [gatCell, outCell]; decide,
      (mem_ownCells (g := outCell (vthr d L))).mpr ⟨rfl, by show (SemLoc.dma cc0_scoped1.sem : SemLoc sig).isScoped .scVector = true; decide⟩⟩⟩)]

omit [FloatOps F] in
/-- The two scratch buffers are among the subcore's own, at some contents. -/
theorem ownBufs_V :
    (ownBufs (vthr d L) : sProp 𝕄)
      = iprop((∃ f, (vthr d L).loc cc0_scratch0 ↦{fullShare} f) ∗ (∃ f, (vthr d L).loc cc0_scratch1 ↦{fullShare} f)
          ∗ bigSep (((ownRefs (τ := τ) (.scVector (cV L) (sV L))).erase ((Proc.scVector (cV L) (sV L)).devRef cc0_scratch0)).erase
              ((Proc.scVector (cV L) (sV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

/-! ### The values a task moves -/

omit [FloatOps F] in
/-- What the index scratch holds once the row numbers have landed, read whole: the task's row numbers. -/
theorem idx_landed (fs : Buf (Elt F) ((vthr d L).loc cc0_scratch0)) (x : S512.Idx) :
    (idxV).view.read (Elt F) (View.write (Elt F) (idxV).view fs ((txtK L).view.read (Elt F) (m (txtLoc d))) Finset.univ) x
      = m (txtLoc d) ((txtK L).view.emb x) := by
  rw [View.write_whole_univ]
  simp only [Memref.view_whole, View.read_whole]
  exact (View.read_apply _ _).trans (cast_eq _ _)

omit [FloatOps F] in
/-- The landed row numbers are rows of the table. -/
theorem idx_inb (hpre : PreOK m) (fs : Buf (Elt F) ((vthr d L).loc cc0_scratch0)) (pay : S512.Idx → Elt F .i32)
    (hpay : pay = (txtK L).view.read (Elt F) (m (txtLoc d))) :
    ∀ x, ((idxV).view.read (Elt F) (View.write (Elt F) (idxV).view fs pay Finset.univ) x : BitVec 32).toNat
      < S100000x128.size gathers_S100000x128_S512x128.axis := by
  subst hpay; intro x
  rw [idx_landed]
  exact hpre d _

omit [FloatOps F] in
/-- Reading the task's slice of the table reads the table. -/
theorem tab_read (g : Buf (Elt F) (tabLoc d)) (x : S100000x128.Idx) : (tabK).view.read (Elt F) g x = g x := by
  refine (View.read_apply _ _).trans ((cast_eq _ _).trans (congrArg g ?_))
  funext a
  apply Fin.ext
  match a with
  | 0 => show 0 + 1 * (x 0).val = (x 0).val; omega
  | 1 => show 0 + 1 * (x 1).val = (x 1).val; omega

omit [FloatOps F] in
/-- Entry `x 0` of the task's row numbers sits where row `x 0` of the task's part of the embedding array does. -/
theorem txt_emb_row (x : S512x128.Idx) (hn : S512.numel = S512x128.size gathers_S100000x128_S512x128.axis') :
    (txtK L).view.emb (S512.rowMajor.symm (Fin.cast hn.symm (x 0))) = rowIx ((embK L).view.emb x 0) := by
  have hr : (S512.rowMajor.symm (Fin.cast hn.symm (x 0)) 0).val = (x 0).val := by
    rw [← Shape.rowMajor_val_one, Equiv.apply_symm_apply]; rfl
  funext a
  apply Fin.ext
  match a with
  | 0 =>
    show k0_off1 L 0 + 1 * (S512.rowMajor.symm (Fin.cast hn.symm (x 0)) 0).val = k0_off2 L 0 + 1 * (x 0).val
    rw [hr, k0_off1_eq, k0_off2_eq]
    rfl

omit [FloatOps F] in
/-- What the gather lands in the row scratch is, row by row, what the embedding array must hold there. -/
theorem gathered (hpre : PreOK m) (fs : Buf (Elt F) ((vthr d L).loc cc0_scratch0)) (pay : S512.Idx → Elt F .i32)
    (hpay : pay = (txtK L).view.read (Elt F) (m (txtLoc d)))
    (hn : S512.numel = S512x128.size gathers_S100000x128_S512x128.axis')
    (hin : ∀ x, ((idxV).view.read (Elt F) (View.write (Elt F) (idxV).view fs pay Finset.univ) x : BitVec 32).toNat
      < S100000x128.size gathers_S100000x128_S512x128.axis) (x : S512x128.Idx) :
    SparseCore.gatherPayload gathers_S100000x128_S512x128 ((tabK).view.read (Elt F) (m (tabLoc d)))
        (SparseCore.rows ((idxV).view.read (Elt F) (View.write (Elt F) (idxV).view fs pay Finset.univ)) hn hin) x
      = gath m d ((embK L).view.emb x) := by
  subst hpay
  unfold SparseCore.gatherPayload
  rw [tab_read]
  unfold gath
  congr 1
  funext a
  apply Fin.ext
  match a with
  | 0 =>
    refine (congrArg Fin.val (Shape.Gathers.idx_axis gathers_S100000x128_S512x128 _ x)).trans ?_
    refine (congrArg BitVec.toNat (idx_landed m d L fs (S512.rowMajor.symm (Fin.cast hn.symm (x 0))))).trans ?_
    rw [txt_emb_row L x hn]
    exact (Nat.mod_eq_of_lt (hpre d _)).symm
  | 1 =>
    refine (Shape.Gathers.idx_of_ne gathers_S100000x128_S512x128 _ x 1 (by decide)).trans ?_
    show (x 1).val = k0_off2 L 1 + 1 * (x 1).val
    rw [k0_off2_eq]
    show (x 1).val = 0 + 1 * (x 1).val
    omega

omit [FloatOps F] in
/-- Contents that read, on the task's part of the embedding array, as the gathered array does are the gathered array there. -/
theorem emb_landed (f : Buf (Elt F) (embLoc d)) (h : ∀ x, (embK L).view.read (Elt F) f x = gath m d ((embK L).view.emb x)) :
    ((embK L).view.loc (vthr d L) ↦[(embK L).view.set]{fullShare} f : sProp 𝕄) = embLoc d ↦[embSet (cL L) (sL L)]{fullShare} gath m d := by
  rw [← pts_embK]
  refine pointsTo_congr fun j hj => ?_
  obtain ⟨x, -, rfl⟩ := Finset.mem_map.mp hj
  rw [← h x]
  exact ((View.read_apply _ _).trans (cast_eq _ _)).symm

set_option maxHeartbeats 4000000 in
/-- Task `(L 0, L 1)` on device `d`: given its part of the three arrays, the copy in, the gather and the copy out run to
    the end, every wait answered, and hand the part back with the embedding rows gathered. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ part m d (m (embLoc d)) (cL L) (sL L)
        ∗ scopedBufs (vthr d L) ∗ scopedSems0 (vthr d L) ∗ owes (vthr d L) O W)
      ⊢ wp frame (wpE (defs₀ (F := F)) 𝒱₀ (vthr d L) none) Set.univ
          (cc0_gather L txtV (Memref.isWhole_whole _) tabV (Memref.isWhole_whole _) embV (Memref.isWhole_whole _)
            idxV (Memref.isWhole_whole _) rowV (Memref.isWhole_whole _) cc0_scratch2 cc0_scoped0 cc0_scoped1)
          fun _ => iprop(part m d (gath m d) (cL L) (sL L)
            ∗ scopedBufs (vthr d L) ∗ scopedSems0 (vthr d L)
            ∗ ∃ W', ⌜∀ p ∈ W', p ∈ W ∨ p.2 = none⌝ ∗ owes (vthr d L) O W') := by
  simp only [cc0_gather_eq_skeleton]; unfold cc0_gather_skel
  rw [(K (F := F)).scopedBufs_V hF d (cV L) (sV L), SparseCore.Cfg.scopedSems0_V (Val := Elt F) d (cV L) (sV L), ownSems0_V, ownBufs_V]
  iintro ⟨#Hlv, -, ⟨Htxt, Htab, Hemb⟩, ⟨⟨%fs, Hidx⟩, ⟨%fr, Hrow⟩, Hbufs⟩, ⟨Hgat, Hin, Hout, Hsems⟩, HO⟩
  ihave Hmw := (show levAts (K (F := F)).L (K (F := F)).lev ⊢ Transfers.MayWaits (vthr d L) (default : HIx 1) O from
    (K (F := F)).mayWaits_none (thr := vthr d L) hO) $$ Hlv
  ihave Htxt := (Entails.of_eq (pts_txtK (F := F) d L _).symm) $$ Htxt
  ihave Hemb := (Entails.of_eq (pts_embK (F := F) d L _).symm) $$ Hemb
  ihave Htab := (Entails.of_eq (pts_tabK (F := F) d L _ _).symm) $$ Htab
  ihave Hidx := (Entails.of_eq (pts_idxV (F := F) d L _).symm) $$ Hidx
  ihave Hrow := (Entails.of_eq (pts_rowV (F := F) d L _).symm) $$ Hrow
  sl_exec
  have hN : ∀ h : S100000x128.Gathers 0 S512x128, ∑ j, ((rowV).slice (S512x128.rowRect h.axis' j) (S512x128.stride_rowRect h.axis' j)).view.dmaCredit
      = (rowV).view.dmaCredit := by decide
  iapply (SparseCore.wp_gatherFromWhole countersEmb 𝒱₀ (vthr d L) none (hg := gathers_S100000x128_S512x128) (default : HIx 1)
      (rowV).view.dmaCredit (hN _) (by decide) (idx_inb m d L hpre fs _ rfl)) $$ [Htab Hrow Hidx Hgat]
  · isplitl [Htab]; · iexact Htab
    isplitl [Hrow]; · iexact Hrow
    isplitl [Hidx]; · iexact Hidx
    iexact Hgat
  iintro Hfl
  sl_exec
  iapply (Transfers.wp_waitLocalO countersEmb 𝒱₀ (vthr d L) none (default : HIx 1) (rfl : (rowV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hrow, Htab, Hidx⟩, Hgat, HO⟩
  sl_exec
  sl_step
  isplitl [Htxt Htab Hemb]
  · isplitl [Htxt]; · iapply (Entails.of_eq (pts_txtK (F := F) d L _)); iexact Htxt
    isplitl [Htab]; · iexact Htab
    have hpay : ∀ x, tile_body.sl.dma0_1 m d L hpre fs fr x = gath m d ((embK L).view.emb x) := fun x =>
      (congrFun (View.read_write_univ _ _) x).trans (gathered m d L hpre fs _ rfl _ _ x)
    iapply (Entails.of_eq (emb_landed m d L ((embK L).view.writes (Elt F) (m (embLoc d)) [⟨Rect.whole S512x128, tile_body.sl.dma0_1 m d L hpre fs fr⟩])
      fun x => (congrFun (View.read_writes_whole _ _ _) x).trans (hpay x)))
    iexact Hemb
  isplitl [Hidx Hrow Hbufs]
  · isplitl [Hidx]; · iexists _; iexact Hidx
    isplitl [Hrow]; · iexists _; iexact Hrow
    iexact Hbufs
  isplitl [Hgat Hin Hout Hsems]
  · isplitl [Hgat]; · iexact Hgat
    isplitl [Hin]; · iexact Hin
    isplitl [Hout]; · iexact Hout
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          txtV (Memref.isWhole_whole _) tabV (Memref.isWhole_whole _) embV (Memref.isWhole_whole _)
          idxV (Memref.isWhole_whole _) rowV (Memref.isWhole_whole _) cc0_scratch2 cc0_scoped0 cc0_scoped1) ⟨⟩ c s := rfl

omit [FloatOps F] in
/-- A task's waits, all its own transfers', are within what the launch allows it. -/
theorem widen_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets what the launch asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => widen_waits)

end Tile

end Cert.Proof.KernelIdealRun

end
-- ==== Proof.KernelIdealBody.lean ====
/-
  The TensorCore half of the kernel, one grid point: from a block of embedding rows, the weights and the bias row in
  the staging buffers, the body leaves the block of log-probabilities (`k1_pay1` of the three) in the result's staging
  buffer and the three as they were.
-/
module

public import proofs.«01_k».proof.Defs
public import proofs.«01_k».proof.Proof.KernelIdealTile
public import Idealize.ShloMosaic.Lib.Pipeline.Kit
public import Idealize.ShloMosaic.Lib.Pipeline.Regions
public import Idealize.ShloMosaic.Lib.Pipeline.FrameBody
public import Idealize.ShloMosaic.Lib.Tactic
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The rectangle of a whole shape, at offset zero, places every index at itself. -/
theorem idx_full {s : Shape} (off : Fin s.rank → Nat) (h0 : ∀ a, off a = 0) (hb : ∀ a, off a + s.size a ≤ s.size a) (y : s.Idx) :
    (Rect.unit (s := s) off s.size hb).emb y = y := by
  funext a
  apply Fin.ext
  show off a + 1 * (y a).val = (y a).val
  rw [h0 a]; omega

omit [FloatOps F] in
/-- A load of a whole memref reads its contents. -/
theorem load_full {κ : Kind} {sp : Space} {s : Shape} {e : EltTy} (M : Memref sig κ sp s e) (off : Fin s.rank → Nat) (h0 : ∀ a, off a = 0)
    (hb : ∀ a, off a + s.size a ≤ s.size a) (f : M.view.ty.Contents (Elt F)) :
    View.readAt (Elt F) M.view (Rect.unit (s := s) off s.size hb).toLoadRect f = View.read (Elt F) M.view f := by
  funext y
  rw [View.readAt_apply]
  exact congrArg _ (idx_full off h0 hb y)

omit [FloatOps F] in
/-- A store of a whole memref leaves what it stores. -/
theorem store_full {κ : Kind} {sp : Space} {s : Shape} {e : EltTy} (M : Memref sig κ sp s e) (off : Fin s.rank → Nat) (h0 : ∀ a, off a = 0)
    (hb : ∀ a, off a + s.size a ≤ s.size a) (f : M.view.ty.Contents (Elt F)) (p : s.Idx → Elt F e) :
    View.read (Elt F) M.view (M.view.writes (Elt F) f [⟨Rect.unit (s := s) off s.size hb, p⟩]) = p := by
  funext y
  have h := View.read_writes_cons_emb M.view f (Rect.unit (s := s) off s.size hb) p [] y
  rwa [idx_full off h0 hb y] at h

theorem zero_two : ∀ a : Fin 2, (![0, 0] : Fin 2 → Nat) a = 0 := by decide

set_option maxHeartbeats 1000000 in
/-- The body at a grid point, over whole staging buffers. -/
theorem body_run (c : Dev nD) (i : grid1.Coords)
    (M1 : Memref sig .tc .vmem S1024x128 .f32) (h1 : M1.IsWhole) (M2 : Memref sig .tc .vmem S1000x128 .f32) (h2 : M2.IsWhole)
    (M3 : Memref sig .tc .vmem S1x1000 .f32) (h3 : M3.IsWhole) (M4 : Memref sig .tc .vmem S1024x1000 .f32) (h4 : M4.IsWhole)
    (x : S1024x128.Idx → Elt F .f32) (w : S1000x128.Idx → Elt F .f32) (b : S1x1000.Idx → Elt F .f32) (o : S1024x1000.Idx → Elt F .f32)
    (Q : PUnit → sProp 𝕄) :
    iprop(owns (c : Thread nD τ) M1 fullShare x ∗ owns (c : Thread nD τ) M2 fullShare w ∗ owns (c : Thread nD τ) M3 fullShare b
        ∗ owns (c : Thread nD τ) M4 fullShare o
        ∗ (iprop(owns (c : Thread nD τ) M1 fullShare x ∗ owns (c : Thread nD τ) M2 fullShare w ∗ owns (c : Thread nD τ) M3 fullShare b
            ∗ owns (c : Thread nD τ) M4 fullShare (k1_pay1 x w b)) -∗ Q ⟨⟩))
      ⊢ wp frame (wpE (defs₀ (F := F)) 𝒱₀ (c : Thread nD τ) none) Set.univ (cc1__head_body i M1 h1 M2 h2 M3 h3 M4 h4) Q := by
  simp only [cc1__head_body_eq_skeleton]; unfold cc1__head_body_skel
  unfold owns
  iintro ⟨⟨%fx, %hx, Hx⟩, ⟨%fw, %hw, Hw⟩, ⟨%fb, %hb, Hb⟩, ⟨%fo, -, Ho⟩, Hk⟩
  sl_exec
  sl_step
  iapply Hk
  isplitl [Hx]; · iexists fx; isplitr; (· ipureintro; exact hx); iexact Hx
  isplitl [Hw]; · iexists fw; isplitr; (· ipureintro; exact hw); iexact Hw
  isplitl [Hb]; · iexists fb; isplitr; (· ipureintro; exact hb); iexact Hb
  iexists _; isplitr; swap; (· iexact Ho)
  ipureintro
  rw [store_full M4 _ zero_two]
  rw [load_full M1 _ zero_two, load_full M2 _ zero_two, load_full M3 _ zero_two, hx, hw, hb]

end Cert.Proof.KernelIdealRun

end
-- ==== Proof.KernelIdealRegion.lean ====
/-
  The TensorCore pipeline of the kernel: sixteen grid points over blocks of 1024 embedding rows. The region is entered
  with the device's arrays at a valuation and left with the result array at `headOut` of the three arrays it reads.
-/
module

public import proofs.«01_k».proof.Defs
public import proofs.«01_k».proof.Proof.KernelIdealBody
public import Idealize.ShloMosaic.Lib.Pipeline.RegionArrays
public import Idealize.ShloMosaic.Lib.Pipeline.ValueKit.Geometry

@[expose] public section

noncomputable section

namespace Cert.Proof.KernelIdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The part of the ghost state that the pipeline's staging cells use. -/
abbrev EP : Emb (URounds (GSem nD τ sig) Unit) 𝕄 := Emb.inl.trans embR

instance EP_landsIn : (EP (F := F)).LandsIn (upEmb : UEmb _ 𝕄) := by unfold EP; infer_instance

/-- The pipelines' tables are admissible: they prefetch none. -/
abbrev adm : (p : Fin 1) → (pcfgs (F := F) p).Adm := fun p => (cfgs p).toPCfg_adm

/-- The embedding rows of block `k`: 1024 rows from row `1024 k`. -/
def rowsOf (E : S16384x128.Idx → Elt F .f32) (k : Fin 16) : S1024x128.Idx → Elt F .f32 := fun j =>
  E (fun a => match a with | 0 => ⟨k.val * 1024 + (j 0).val, by have := (j 0).isLt; change _ < 1024 at this; show _ < 16384; omega⟩ | 1 => j 1)

/-- The place of entry `j` of the result within its block of rows. -/
def placeOf (j : S16384x1000.Idx) : S1024x1000.Idx := fun a => match a with
  | 0 => ⟨(j 0).val % 1024, Nat.mod_lt _ (by decide)⟩
  | 1 => j 1

/-- The block of rows that entry `j` of the result lies in. -/
def blkOf (j : S16384x1000.Idx) : Fin 16 := ⟨(j 0).val / 1024, by have := (j 0).isLt; change _ < 16384 at this; omega⟩

/-- What the region leaves in its result array, read from embedding rows `E`, weights `W` and the bias row `B`: each
    block of 1024 rows is the body's payload over the rows of that block. -/
def headOut (E : S16384x128.Idx → Elt F .f32) (W : S1000x128.Idx → Elt F .f32) (B : S1x1000.Idx → Elt F .f32) :
    S16384x1000.Idx → Elt F .f32 := fun j => k1_pay1 (rowsOf E (blkOf j)) W B (placeOf j)

/-! ## The proof data of the region -/

variable (V : Dev nD → Valuation τ sig (Elt F))

/-- The waits recorded on a core's TensorCore stay at or under the level the call has reached. -/
def low (c : Dev nD) : Set (SemLoc sig × HIx 1) := {p | (K (F := F)).lev ((c : Thread nD τ), p.1) p.2 ≤ 8}

/-- The block of an array that window `w` shows at point `t`. -/
abbrev blkIn (c : Dev nD) (w : Fin 4) (t : Fin cfg1.N) :=
  ((cfg1.win w).blk t).view.read (Elt F) (V c (Proc.devRef .tc (Pipeline.arrRef spec1 w)))

/-- The region's proof data: the arrays as the valuation has them; after the body an input's staging buffer holds its
    block still and the result's holds the payload of the three blocks. -/
def dats (_ : Fin 1) (c : Dev nD) : Pipeline.Dat τ (Elt F) (HIx 1) ℕ UU ℕ cfg1 c where
  A w := V c (Proc.devRef .tc (Pipeline.arrRef spec1 w))
  after w t := match w with
    | 0 => blkIn V c 0 t
    | 1 => blkIn V c 1 t
    | 2 => blkIn V c 2 t
    | 3 => k1_pay1 (blkIn V c 0 t) (blkIn V c 1 t) (blkIn V c 2 t)
    | ⟨_ + 4, h⟩ => absurd h (Nat.not_lt.2 (Nat.le_add_left _ _))
  Φ _ := iprop(emp)
  q _ := fullShare
  owed _ := 0
  recorded _ := low (F := F) c

theorem after_0 (p : Fin 1) (c : Dev nD) (t : Fin cfg1.N) : (dats V p c).after 0 t = blkIn V c 0 t := rfl
theorem after_1 (p : Fin 1) (c : Dev nD) (t : Fin cfg1.N) : (dats V p c).after 1 t = blkIn V c 1 t := rfl
theorem after_2 (p : Fin 1) (c : Dev nD) (t : Fin cfg1.N) : (dats V p c).after 2 t = blkIn V c 2 t := rfl
theorem after_3 (p : Fin 1) (c : Dev nD) (t : Fin cfg1.N) :
    (dats V p c).after 3 t = k1_pay1 (blkIn V c 0 t) (blkIn V c 1 t) (blkIn V c 2 t) := rfl

theorem before_0 (p : Fin 1) (c : Dev nD) (t : Fin cfg1.N) (d : _) : (dats V p c).before 0 t d = blkIn V c 0 t :=
  (dats V p c).before_in_eq_fetched 0 rfl (fun _ => rfl) (fun _ _ _ => rfl) (fun _ => rfl) t d
theorem before_1 (p : Fin 1) (c : Dev nD) (t : Fin cfg1.N) (d : _) : (dats V p c).before 1 t d = blkIn V c 1 t :=
  (dats V p c).before_in_eq_fetched 1 rfl (fun _ => rfl) (fun _ _ _ => rfl) (fun _ => rfl) t d
theorem before_2 (p : Fin 1) (c : Dev nD) (t : Fin cfg1.N) (d : _) : (dats V p c).before 2 t d = blkIn V c 2 t :=
  (dats V p c).before_in_eq_fetched 2 rfl (fun _ => rfl) (fun _ _ _ => rfl) (fun _ => rfl) t d

/-- The body at a grid point with the result's staging buffer at any contents. -/
theorem body_run_any (c : Dev nD) (i : grid1.Coords)
    (M1 : Memref sig .tc .vmem S1024x128 .f32) (h1 : M1.IsWhole) (M2 : Memref sig .tc .vmem S1000x128 .f32) (h2 : M2.IsWhole)
    (M3 : Memref sig .tc .vmem S1x1000 .f32) (h3 : M3.IsWhole) (M4 : Memref sig .tc .vmem S1024x1000 .f32) (h4 : M4.IsWhole)
    (x : S1024x128.Idx → Elt F .f32) (w : S1000x128.Idx → Elt F .f32) (b : S1x1000.Idx → Elt F .f32) (Q : PUnit → sProp 𝕄) :
    iprop(owns (c : Thread nD τ) M1 fullShare x ∗ owns (c : Thread nD τ) M2 fullShare w ∗ owns (c : Thread nD τ) M3 fullShare b
        ∗ (∃ o, owns (c : Thread nD τ) M4 fullShare o)
        ∗ (iprop(owns (c : Thread nD τ) M1 fullShare x ∗ owns (c : Thread nD τ) M2 fullShare w ∗ owns (c : Thread nD τ) M3 fullShare b
            ∗ owns (c : Thread nD τ) M4 fullShare (k1_pay1 x w b)) -∗ Q ⟨⟩))
      ⊢ wp frame (wpE (defs₀ (F := F)) 𝒱₀ (c : Thread nD τ) none) Set.univ (cc1__head_body i M1 h1 M2 h2 M3 h3 M4 h4) Q := by
  iintro ⟨H0, H1, H2, ⟨%o, H3⟩, Hk⟩
  iapply (body_run c i M1 h1 M2 h2 M3 h3 M4 h4 x w b o Q)
  isplitl [H0]; · iexact H0
  isplitl [H1]; · iexact H1
  isplitl [H2]; · iexact H2
  isplitl [H3]; · iexact H3
  iexact Hk

/-- The body meets its obligation at every grid point. -/
theorem body_obligation (p : Fin 1) (c : Dev nD) :
    Pipeline.BodyObligation (dats V p c) (defs₀ (F := F)) 𝒱₀ none Set.univ := by
  intro t
  rw [bigSep_W1, bigSep_W1]
  unfold Pipeline.Dat.owesAt Pipeline.owesWithin
  rw [after_0, after_1, after_2, after_3]
  simp only [before_0, before_1, before_2]
  refine Idealize.SL.BI.BIBase.Entails.trans ?_ (body_run_any c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (blkIn V c 0 t) (blkIn V c 1 t) (blkIn V c 2 t) _)
  iintro ⟨-, ⟨%Wd, %hWd, Ho⟩, ⟨%d0, H0⟩, ⟨%d1, H1⟩, ⟨%d2, H2⟩, ⟨%d3, H3⟩⟩
  isplitl [H0]; · iexact H0
  isplitl [H1]; · iexact H1
  isplitl [H2]; · iexact H2
  isplitl [H3]; · iexists _; iexact H3
  iintro ⟨H0, H1, H2, H3⟩
  isplitr; · iempintro
  isplitl [Ho]; · iexists Wd; isplitr; (· ipureintro; exact hWd); iexact Ho
  isplitl [H0]; · iexact H0
  isplitl [H1]; · iexact H1
  isplitl [H2]; · iexact H2
  iexact H3

/-! ## The result array -/

theorem index1_0 : ∀ t : Fin cfg1.N, win1_0.index t = ![t.val, 0] :=
  (by decide +kernel : ∀ t : Fin grid1.N, win1_0.index t = ![t.val, 0])
theorem index1_1 : ∀ t : Fin cfg1.N, win1_1.index t = ![0, 0] :=
  (by decide +kernel : ∀ t : Fin grid1.N, win1_1.index t = ![0, 0])
theorem index1_2 : ∀ t : Fin cfg1.N, win1_2.index t = ![0, 0] :=
  (by decide +kernel : ∀ t : Fin grid1.N, win1_2.index t = ![0, 0])
theorem index1_3 : ∀ t : Fin cfg1.N, win1_3.index t = ![t.val, 0] :=
  (by decide +kernel : ∀ t : Fin grid1.N, win1_3.index t = ![t.val, 0])

/-- A device's embedding rows, weights and bias row as a valuation has them. -/
abbrev embOf (W : Valuation τ sig (Elt F)) : S16384x128.Idx → Elt F .f32 := W (Proc.devRef .tc main_v0)
abbrev wgtOf (W : Valuation τ sig (Elt F)) : S1000x128.Idx → Elt F .f32 := W (Proc.devRef .tc main_arg2)
abbrev rowB (W : Valuation τ sig (Elt F)) : S1x1000.Idx → Elt F .f32 := W (Proc.devRef .tc main_v1)

/-- The embedding window's block at point `t` is the rows of block `t`. -/
theorem blkIn_0 (c : Dev nD) (t : Fin cfg1.N) : blkIn V c 0 t = rowsOf (embOf (V c)) (t.cast N_1) := by
  funext y
  show V c (Proc.devRef .tc main_v0) ((win1_0.blk t).view.emb y) = V c (Proc.devRef .tc main_v0) _
  refine congrArg _ ?_
  blk_ext [index1_0]
  rfl

/-- The weights' window shows all the weights. -/
theorem blkIn_1 (c : Dev nD) (t : Fin cfg1.N) : blkIn V c 1 t = wgtOf (V c) := by
  funext y
  show V c (Proc.devRef .tc main_arg2) ((win1_1.blk t).view.emb y) = V c (Proc.devRef .tc main_arg2) _
  refine congrArg _ ?_
  blk_ext [index1_1]

/-- The bias window shows all the bias row. -/
theorem blkIn_2 (c : Dev nD) (t : Fin cfg1.N) : blkIn V c 2 t = rowB (V c) := by
  funext y
  show V c (Proc.devRef .tc main_v1) ((win1_2.blk t).view.emb y) = V c (Proc.devRef .tc main_v1) _
  refine congrArg _ ?_
  blk_ext [index1_2]

/-- The result array after the region. -/
theorem arr_out (p : Fin 1) (c : Dev nD) :
    (dats V p c).arrAt 3 cfg1.N = headOut (embOf (V c)) (wgtOf (V c)) (rowB (V c)) := by
  refine (dats V p c).arrAt_eq_of_covers 3 _ (by decide +kernel) fun t hf y => ?_
  blk_simp
  rw [after_3, blkIn_0, blkIn_1, blkIn_2]
  have e1 : blkOf ((win1_3.blk t).view.emb y) = t.cast N_1 := by
    apply Fin.ext
    show ((win1_3.blk t).view.emb y 0).val / 1024 = t.val
    blk_simp [index1_3]
    idx_bounds y
    omega
  have e2 : placeOf ((win1_3.blk t).view.emb y) = y := by
    funext a
    apply Fin.ext
    match a with
    | 0 =>
      show ((win1_3.blk t).view.emb y 0).val % 1024 = (y 0).val
      blk_simp [index1_3]
      idx_bounds y
      omega
    | 1 =>
      show ((win1_3.blk t).view.emb y 1).val = (y 1).val
      blk_simp [index1_3]
  show _ = headOut _ _ _ ((win1_3.blk t).view.emb y)
  unfold headOut
  rw [e1, e2]

/-! ## The region -/

/-- The valuation the region leaves: the result array at `headOut` of the arrays it read, all else as it was. -/
def headVal (W : Valuation τ sig (Elt F)) : Valuation τ sig (Elt F) :=
  Function.update W (Proc.devRef .tc main_v2) (headOut (embOf W) (wgtOf W) (rowB W))

theorem share_eq (p : Fin 1) (c : Dev nD) (w : Fin cfg1.W) : (dats V p c).share w = fullShare := by
  unfold Pipeline.Dat.share
  split <;> rfl

/-- The windows' arrays after the region are as the valuation it leaves has them. -/
theorem arr_end (p : Fin 1) (c : Dev nD) (w : Fin cfg1.W) :
    (dats V p c).arrAt w cfg1.N = headVal (V c) (Proc.devRef .tc (Pipeline.arrRef spec1 w)) := by
  unfold headVal
  match w with
  | 0 => rw [(dats V p c).arrAt_in 0 rfl _]; exact (Function.update_of_ne (show Proc.devRef (τ := τ) (sig := sig) .tc main_v0 ≠ Proc.devRef .tc main_v2 by decide) _ _).symm
  | 1 => rw [(dats V p c).arrAt_in 1 rfl _]; exact (Function.update_of_ne (show Proc.devRef (τ := τ) (sig := sig) .tc main_arg2 ≠ Proc.devRef .tc main_v2 by decide) _ _).symm
  | 2 => rw [(dats V p c).arrAt_in 2 rfl _]; exact (Function.update_of_ne (show Proc.devRef (τ := τ) (sig := sig) .tc main_v1 ≠ Proc.devRef .tc main_v2 by decide) _ _).symm
  | 3 => rw [arr_out]; exact (Function.update_self (Proc.devRef (τ := τ) (sig := sig) .tc main_v2) (headOut (embOf (V c)) (wgtOf (V c)) (rowB (V c))) (V c)).symm

theorem arrs_unscoped : Pipeline.arrRefs (τ := τ) spec1 ⊆ Pipeline.ucRefs τ sig :=
  Pipeline.arrRefs_sub_ucRefs spec1 (by decide)

/-- Outside the windows' arrays the valuation the region leaves is the one it found. -/
theorem headVal_rest (c : Dev nD) (W : Valuation τ sig (Elt F)) :
    (StableHlo.held (c : Thread nD τ) (Pipeline.ucRefs τ sig \ Pipeline.arrRefs spec1) (headVal W) : sProp 𝕄)
      = StableHlo.held (c : Thread nD τ) (Pipeline.ucRefs τ sig \ Pipeline.arrRefs spec1) W :=
  StableHlo.held_congr _ fun b hb => Function.update_of_ne (fun h => (Finset.mem_sdiff.mp hb).2 (by
    rw [h]
    exact Finset.mem_map.mpr ⟨main_v2, Finset.mem_image.mpr ⟨(3 : Fin 4), Finset.mem_univ _, rfl⟩, rfl⟩)) _ _

/-- The TensorCore owing nothing, its recorded waits low. -/
def owing (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The region as a segment of the program: entered with every unscoped buffer at `V`, left with them at `headVal V`. -/
def region : Pipeline.RegionSeg (pcfgs (F := F)) adm (dats V) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V 0 c).loose
  hwaits := Pipeline.hwaits_of_owed_zero _ _ _ _ _ _ 0 fun _ _ => rfl
  pre c := iprop(StableHlo.held (c : Thread nD τ) (Pipeline.ucRefs τ sig) (V c) ∗ owing (F := F) c)
  post c := iprop(StableHlo.held (c : Thread nD τ) (Pipeline.ucRefs τ sig) (headVal (V c)) ∗ owing (F := F) c)
  X _ := iprop(emp)
  Y _ := iprop(emp)
  Z c := StableHlo.held (c : Thread nD τ) (Pipeline.ucRefs τ sig \ Pipeline.arrRefs spec1) (V c)
  hentry c := by
    rw [Pipeline.ownSems0_none, Pipeline.prefHeld_of_none _ rfl,
      StableHlo.held_sub_split _ arrs_unscoped (V c),
      Pipeline.arrays_held (pcfgs (F := F)) adm (dats V) 0 launch1.toP c (share_eq V 0 c) ((dats V 0 c).arrAt · 0) (V c) fun _ => rfl]
    unfold owing
    iintro ⟨⟨⟨Ha, Hz⟩, ⟨%W, %hW, HO⟩⟩, -, -⟩
    imodintro
    isplitl [Ha]; · iexact Ha
    isplitr; · iempintro
    isplitl [HO]
    · unfold Pipeline.Dat.owesAt Pipeline.owesWithin Pipeline.Dat.bound
      iexists W; isplitr
      · ipureintro; exact fun p hp => Or.inl (hW p hp)
      iexact HO
    isplitr; · iempintro
    iexact Hz
  hin c := by
    show _ ⊢ iprop(emp)
    iintro -
    iempintro
  hout c := by
    rw [Pipeline.ownSems0_none, show (Pipeline.scopedRest (Pipeline.pin (pcfgs (F := F)) adm 0).spec c : sProp 𝕄) = BI.emp from scopedRest1_eq c]
    iintro -
    isplitr; · iempintro
    isplitr; · iempintro
    iempintro
  hexit c := by
    rw [Pipeline.arrays_held (pcfgs (F := F)) adm (dats V) 0 launch1.toP c (share_eq V 0 c) ((dats V 0 c).arrAt · cfg1.N) (headVal (V c)) (arr_end V 0 c),
      StableHlo.held_sub_split _ arrs_unscoped (headVal (V c))]
    iintro ⟨Ha, HO, -, Hz⟩
    imodintro
    isplitl [Ha Hz]
    · isplitl [Ha]; · iexact Ha
      rw [headVal_rest]
      iexact Hz
    unfold owing Pipeline.Dat.owesAt Pipeline.owesWithin Pipeline.Dat.bound
    icases HO with ⟨%W, %hW, HO⟩
    iexists W; isplitr
    · ipureintro
      intro p hp
      rcases hW hp with h | ⟨w, s, h⟩
      · exact h
      · rw [h]; exact Nat.zero_le _
    iexact HO

end Cert.Proof.KernelIdealRun

end
-- ==== Proof.KernelIdealMain.lean ====
/-
  The program on the TensorCore: the SparseCore call takes the embedding array to the gathered rows, a reshape turns the
  bias into a row, and the pipeline computes the log-probabilities.
-/
module

public import proofs.«01_k».proof.Defs
public import proofs.«01_k».proof.Proof.KernelIdealRegion

@[expose] public section

noncomputable section

namespace Cert.Proof.KernelIdealRun

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The three arrays of the SparseCore call, whole and in thirty-two parts -/

theorem txtSet_eq (c : Fin 2) (i : Fin 16) : txtSet c i = (txtRect (task c i)).set := by
  show ((View.whole _).slice _).set = _
  rw [View.set_slice]; exact Finset.map_refl

theorem embSet_eq (c : Fin 2) (i : Fin 16) : embSet c i = (embRect (task c i)).set := by
  show ((View.whole _).slice _).set = _
  rw [View.set_slice]; exact Finset.map_refl

/-- Every part is some task's. -/
theorem task_surj (t : Fin 32) : ∃ p : Fin 2 × Fin 16, task p.1 p.2 = t :=
  ⟨(⟨t.val % 2, by omega⟩, ⟨t.val / 2, by omega⟩), Fin.ext (by simp only [task]; omega)⟩

theorem txt_cover : (Finset.univ : Finset (Fin 2 × Fin 16)).biUnion (fun p => txtSet p.1 p.2) = Finset.univ := by
  ext i
  simp only [Finset.mem_biUnion, Finset.mem_univ, true_and, iff_true]
  obtain ⟨t, ht⟩ := Rect.exists_mem_part txt_div i
  obtain ⟨p, rfl⟩ := task_surj t
  exact ⟨p, by rw [txtSet_eq]; exact ht⟩

theorem emb_cover : (Finset.univ : Finset (Fin 2 × Fin 16)).biUnion (fun p => embSet p.1 p.2) = Finset.univ := by
  ext i
  simp only [Finset.mem_biUnion, Finset.mem_univ, true_and, iff_true]
  obtain ⟨t, ht⟩ := Rect.exists_mem_part emb_div i
  obtain ⟨p, rfl⟩ := task_surj t
  exact ⟨p, by rw [embSet_eq]; exact ht⟩

theorem task_ne {p p' : Fin 2 × Fin 16} (h : p ≠ p') : task p.1 p.2 ≠ task p'.1 p'.2 :=
  fun e => h (Prod.ext (task_inj e).1 (task_inj e).2)

/-- The row numbers whole are their parts. -/
theorem txt_parts (d : Dev nD) (f : Buf (Elt F) (txtLoc d)) :
    (txtLoc d ↦{fullShare} f : sProp 𝕄)
      = bigSep Finset.univ fun c : Fin 2 => bigSep Finset.univ fun i : Fin 16 => txtLoc d ↦[txtSet c i]{fullShare} f := by
  rw [show (txtLoc d ↦{fullShare} f : sProp 𝕄)
      = (txtLoc d ↦[(Finset.univ : Finset (Fin 2 × Fin 16)).biUnion (fun p => txtSet p.1 p.2)]{fullShare} f) by rw [txt_cover]]
  rw [pointsTo_biUnion _ _ fun p _ p' _ h => ?_, bigSep_univ_prod]
  show Disjoint (txtSet p.1 p.2) (txtSet p'.1 p'.2)
  rw [txtSet_eq, txtSet_eq]
  exact Rect.part_disjoint txt_div (task_ne h)

/-- The embedding array whole is its parts. -/
theorem emb_parts (d : Dev nD) (f : Buf (Elt F) (embLoc d)) :
    (embLoc d ↦{fullShare} f : sProp 𝕄)
      = bigSep Finset.univ fun c : Fin 2 => bigSep Finset.univ fun i : Fin 16 => embLoc d ↦[embSet c i]{fullShare} f := by
  rw [show (embLoc d ↦{fullShare} f : sProp 𝕄)
      = (embLoc d ↦[(Finset.univ : Finset (Fin 2 × Fin 16)).biUnion (fun p => embSet p.1 p.2)]{fullShare} f) by rw [emb_cover]]
  rw [pointsTo_biUnion _ _ fun p _ p' _ h => ?_, bigSep_univ_prod]
  show Disjoint (embSet p.1 p.2) (embSet p'.1 p'.2)
  rw [embSet_eq, embSet_eq]
  exact Rect.part_disjoint emb_div (task_ne h)

/-- The table whole is the tasks' shares of it. -/
theorem tab_parts (d : Dev nD) (f : Buf (Elt F) (tabLoc d)) :
    (tabLoc d ↦{fullShare} f : sProp 𝕄)
      = bigSep Finset.univ fun c : Fin 2 => bigSep Finset.univ fun i : Fin 16 => tabLoc d ↦{tabShare c i} f := by
  rw [pointsTo_piecesOf Finset.univ f (by decide : 0 < 2) fullShare]
  exact bigSep_congr fun c _ => pointsTo_piecesOf Finset.univ f (by decide : 0 < 16) _

/-- The three arrays whole, the embedding array at `f`, are what the two SparseCores' tasks hold. -/
theorem call_parts (d : Dev nD) (f : Buf (Elt F) (embLoc d)) :
    (iprop((txtLoc d ↦{fullShare} m (txtLoc d)) ∗ (tabLoc d ↦{fullShare} m (tabLoc d)) ∗ (embLoc d ↦{fullShare} f)) : sProp 𝕄)
      = bigSep Finset.univ fun c : Fin ((K (F := F)).nCore 0) => coreParts m d f (Fin.cast nCore_call c) := by
  show _ = bigSep Finset.univ fun c : Fin 2 => bigSep Finset.univ fun i : Fin 16 => part m d f c i
  rw [txt_parts, emb_parts, tab_parts]
  unfold part
  simp only [bigSep_sep']

/-! ## The contents of a device's arrays, step by step -/

/-- At launch. -/
def val₀ (d : Dev nD) : Valuation τ sig (Elt F) := fun b => m (d, b)

/-- After the SparseCore call: the embedding array gathered. -/
def val₁ (d : Dev nD) : Valuation τ sig (Elt F) := Function.update (val₀ m d) (Proc.devRef .tc main_v0) (gath m d)

abbrev biasOp : HloOp τ sig (Elt F) := StableHlo.reshape main_arg3 main_v1 (rfl : (.f32 : EltTy) = .f32) shapeCasts_S1000_S1x1000

/-- After the reshape of the bias. -/
def val₂ (d : Dev nD) : Valuation τ sig (Elt F) := biasOp.result (val₁ m d)

variable [FloatOps F]

/-- After the pipeline. -/
def val₃ (d : Dev nD) : Valuation τ sig (Elt F) := headVal (val₂ m d)

/-! ## The three arrays among the device's arrays -/

/-- The arrays of the SparseCore call. -/
def callRefs : Finset (DevRef τ sig) := {Proc.devRef .tc main_arg0, Proc.devRef .tc main_arg1, Proc.devRef .tc main_v0}

theorem callRefs_sub : callRefs ⊆ Pipeline.ucRefs τ sig := by decide

omit [FloatOps F] in
theorem held_call (d : Dev nD) (W : Valuation τ sig (Elt F)) :
    (StableHlo.held (d : Thread nD τ) callRefs W : sProp 𝕄)
      = iprop((txtLoc d ↦{fullShare} W (Proc.devRef .tc main_arg0)) ∗ (tabLoc d ↦{fullShare} W (Proc.devRef .tc main_arg1))
          ∗ (embLoc d ↦{fullShare} W (Proc.devRef .tc main_v0))) := by
  unfold StableHlo.held callRefs
  rw [bigSep_insert (by decide), bigSep_insert (by decide), bigSep_singleton]
  rfl

omit [FloatOps F] in
theorem val₁_rest (d : Dev nD) :
    (StableHlo.held (d : Thread nD τ) (Pipeline.ucRefs τ sig \ callRefs) (val₁ m d) : sProp 𝕄)
      = StableHlo.held (d : Thread nD τ) (Pipeline.ucRefs τ sig \ callRefs) (val₀ m d) :=
  StableHlo.held_congr _ fun b hb => Function.update_of_ne (fun h => (Finset.mem_sdiff.mp hb).2 (by
    rw [h]; unfold callRefs; simp)) _ _

/-- Before the call: all the arrays are what the call takes and the rest. -/
theorem held_before (d : Dev nD) :
    (StableHlo.held (d : Thread nD τ) (Pipeline.ucRefs τ sig) (val₀ m d) : sProp 𝕄)
      = iprop((bigSep Finset.univ fun c : Fin ((K (F := F)).nCore 0) => coreParts m d (m (embLoc d)) (Fin.cast nCore_call c))
          ∗ StableHlo.held (d : Thread nD τ) (Pipeline.ucRefs τ sig \ callRefs) (val₀ m d)) := by
  rw [StableHlo.held_sub_split _ callRefs_sub, held_call, ← call_parts]
  rfl

/-- After the call: what it gives back and the rest are all the arrays, the embedding array gathered. -/
theorem held_after (d : Dev nD) :
    (StableHlo.held (d : Thread nD τ) (Pipeline.ucRefs τ sig) (val₁ m d) : sProp 𝕄)
      = iprop((bigSep Finset.univ fun c : Fin ((K (F := F)).nCore 0) => coreParts m d (gath m d) (Fin.cast nCore_call c))
          ∗ StableHlo.held (d : Thread nD τ) (Pipeline.ucRefs τ sig \ callRefs) (val₀ m d)) := by
  rw [StableHlo.held_sub_split _ callRefs_sub, held_call, ← call_parts, val₁_rest]
  have e0 : val₁ m d (Proc.devRef .tc main_arg0) = m (txtLoc d) :=
    Function.update_of_ne (show Proc.devRef (τ := τ) (sig := sig) .tc main_arg0 ≠ Proc.devRef .tc main_v0 by decide) _ _
  have e1 : val₁ m d (Proc.devRef .tc main_arg1) = m (tabLoc d) :=
    Function.update_of_ne (show Proc.devRef (τ := τ) (sig := sig) .tc main_arg1 ≠ Proc.devRef .tc main_v0 by decide) _ _
  have e2 : val₁ m d (Proc.devRef .tc main_v0) = gath m d := Function.update_self _ _ _
  rw [e0, e1, e2]

/-! ## The region's call -/

/-- The pipeline's ghost state on a device. -/
def pipeGhost (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
/-- The call of the pipeline in the program. -/
theorem region_step (V : Dev nD → Valuation τ sig (Elt F)) (d : Dev nD) (Q : PUnit → sProp 𝕄) :
    iprop((iprop(boundary (d : Thread nD τ) ∗ StableHlo.held (d : Thread nD τ) (Pipeline.ucRefs τ sig) (headVal (V d)) ∗ owing (F := F) d) -∗ Q ⟨⟩)
        ∗ boundary (d : Thread nD τ) ∗ (StableHlo.held (d : Thread nD τ) (Pipeline.ucRefs τ sig) (V d) ∗ owing (F := F) d)
        ∗ levAts (K (F := F)).L (K (F := F)).lev ∗ pipeGhost d)
      ⊢ wp frame (wpE ((K (F := F)).defs (D (F := F))) 𝒱 (d : Thread nD τ) none) Set.univ
          (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret) from rfl]
  refine BIBase.Entails.trans ?_ ((K (F := F)).wp_liftProg (D (F := F)) 𝒱 (d : Thread nD τ) Set.univ none _ Q)
  refine BIBase.Entails.trans ?_ ((region V).wp (pcfgs (F := F)) adm (dats V) none cellOf_inj EP (defs₀ (F := F)) 𝒱₀ (K (F := F)).L (K (F := F)).lev d none
    (fun _ h => nomatch h) .ret Q)
  rw [show (region V).pre d = iprop(StableHlo.held (d : Thread nD τ) (Pipeline.ucRefs τ sig) (V d) ∗ owing (F := F) d) from rfl,
    show (region V).post d = iprop(StableHlo.held (d : Thread nD τ) (Pipeline.ucRefs τ sig) (headVal (V d)) ∗ owing (F := F) d) from rfl]
  unfold pipeGhost
  iintro ⟨Hk, Hb, Hpre, Hl, Hg, Ht⟩
  isplitl [Hk]
  · iintro ⟨Hb, Hpost⟩
    rw [wp_ret]
    imodintro
    iapply Hk
    isplitl [Hb]; · iexact Hb
    iexact Hpost
  isplitl [Hb]; · iexact Hb
  isplitl [Hpre]; · iexact Hpre
  isplitl [Hl]; · iexact Hl
  isplitl [Hg]; · iexact Hg
  iexact Ht

/-! ## The program -/

/-- What the program leaves on a device: all its arrays, at the last contents. -/
def FIN (d : Dev nD) : sProp 𝕄 := StableHlo.held (d : Thread nD τ) (Pipeline.ucRefs τ sig) (val₃ m d)

variable (ρ : Dev nD → PrngReg)

theorem sub_bias : (biasOp (F := F)).bufs ⊆ Pipeline.ucRefs τ sig := Pipeline.sub_ucRefs _ (StableHlo.reshape_bufs_sub _ _ _ _ _ _)

/-- The program on a device's TensorCore, from what the launch deals it to its arrays at the last contents. -/
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
    = StableHlo.held (d : Thread nD τ) (Pipeline.ucRefs τ sig) (val₀ m d) from Pipeline.unscopedBufs_held d (val₀ m d)]
  rw [held_before]
  simp only [main, wp_bind, wp_pure]
  iintro ⟨#Hctx, Hst, ⟨Hb, ⟨Hc, Hr⟩, Hts, -⟩, HG⟩
  iapply ((K (F := F)).wp_run (D (F := F)) 𝒱 (EH := EH) (P := P m) κ d 0) $$ [Hst Hc Hr Hb Hts HG]
  isplitr; · iexact Hctx
  isplitl [Hst]; · iexact Hst
  isplitl [Hc]; · iexact Hc
  iintro ⟨Hst, Hdn⟩
  ihave Hh := (BIBase.Entails.of_eq (held_after m d).symm) $$ [Hdn Hr]
  · isplitl [Hdn]; · iexact Hdn
    iexact Hr
  iapply (StableHlo.wp_hlo_within (hp := rfl) 𝒱 (d : Thread nD τ) none Set.univ (op := biasOp) sub_bias (V := val₁ m d)) $$ [Hb Hh]
  · isplitl [Hb]; · iexact Hb
    iexact Hh
  iintro ⟨Hb, Hh⟩
  rw [wp_ret]
  imodintro
  unfold SparseCore.Cfg.tcSt
  icases Hst with ⟨⟨%W, %hW, HO⟩, Hat, Hrd, Hrs, Htk⟩
  ihave Hlev := (SparseCore.Cfg.ctx_levAts κ) $$ Hctx
  iapply (region_step (val₂ m) d _)
  isplitr [Hb Hh HO Hlev HG]
  · iintro ⟨Hb, Hh, HO⟩
    imodintro
    unfold owing
    icases HO with ⟨%W', %hW', HO⟩
    isplitl [HO Hat Hrd Hrs Htk]
    · isplitl [HO]
      · iexists W'
        isplitr; · ipureintro; exact hW'
        rw [(K (F := F)).Otc_end d (le_refl 1)]
        iexact HO
      isplitl [Hat]; · iexact Hat
      isplitl [Hrd]; · iexact Hrd
      isplitl [Hrs]; · iexact Hrs
      iexact Htk
    isplitl [Hh]; · unfold FIN; rw [show val₃ m d = headVal (val₂ m d) from rfl]; iexact Hh
    isplitl [Hb]; · iexact Hb
    iexact Hts
  isplitl [Hb]; · iexact Hb
  isplitl [Hh HO]
  · isplitl [Hh]; · iexact Hh
    unfold owing
    iexists W
    isplitr; · ipureintro; exact hW
    rw [← (K (F := F)).Otc_end d (le_refl 1)]
    iexact HO
  isplitl [Hlev]; · iexact Hlev
  iexact HG

/-! ## The launch -/

/-- The launch element of the ghost state: the calls' rounds, the pipeline's rounds, no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The launch element gives the calls their rounds and each device its pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold pipeGhost
    rw [bigSep_sep']
    have e : ∀ Φ : Fin 1 → sProp 𝕄, bigSep Finset.univ Φ = Φ 0 := fun Φ => bigSep_univ_of_subsingleton (0 : Fin 1)
    simp only [e]
    isplitl [Hg]; · iexact Hg
    iexact Ht
  have e : (bigSep Finset.univ fun thr : Thread nD τ => bigSep Finset.univ fun q : Fin 1 => (P m).x q thr : sProp 𝕄) = iprop(emp) := by
    rw [show (fun thr : Thread nD τ => bigSep Finset.univ fun q : Fin 1 => (P m).x q thr) = fun _ => (iprop(emp) : sProp 𝕄)
      from funext fun _ => bigSep_emp_const _]
    exact bigSep_emp_const _
  rw [e]
  iempintro

/-- All the arrays give any one of them. -/
theorem held_one (d : Dev nD) (W : Valuation τ sig (Elt F)) {b : DevRef τ sig} (hb : b ∈ Pipeline.ucRefs τ sig) :
    (StableHlo.held (d : Thread nD τ) (Pipeline.ucRefs τ sig) W : sProp 𝕄) ⊢ ((d, b) ↦{fullShare} W b) :=
  bigSep_elim hb (Φ := fun b => ((d, b) ↦{fullShare} W b : sProp 𝕄))

/-- What is read of the final state: every array of the program at its last contents. -/
def fq (d : Dev nD) (s' : Phys nD τ sig (Elt F)) : Prop := ∀ b ∈ Pipeline.ucRefs τ sig, s'.mem.mem (d, b) = val₃ m d b

theorem hfin (d : Dev nD) (s' : Phys nD τ sig (Elt F)) : iprop(FIN m d ∗ SI s') ⊢ (⌜fq m d s'⌝ : sProp 𝕄) := by
  refine BIBase.Entails.trans (forall_intro fun b => forall_intro fun hb => ?_)
    (BIBase.Entails.trans (forall_mono fun b => pure_forall.2) pure_forall.2)
  unfold FIN
  iintro ⟨Hh, HSI⟩
  ihave H1 := (held_one d (val₃ m d) hb) $$ Hh
  ihave H := (SI_pointsTo_agree (st := s') (ℓ := (d, b)) (I := Finset.univ) (q := fullShare) (f := val₃ m d b)) $$ [HSI H1]
  · isplitl [HSI] <;> iassumption
  icases H with %h
  ipureintro; exact funext fun i => h i (Finset.mem_univ i)

/-- The end: the arrays at their last contents, the semaphores at zero. -/
def QC : PUnit × MemSt nD τ sig (Elt F) → Prop := fun r =>
  (∀ (d : Dev nD), ∀ b ∈ Pipeline.ucRefs τ sig, r.2.mem (d, b) = val₃ m d b) ∧ r.2.sem = fun _ => 0

/-- Every run of the program, from row numbers that are rows of the table, ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main pipeGhost (FIN m) (u₀ (F := F)) (sep_elim_left.trans (hu₀ m)) (hmain m ρ) (fq m) (hfin m) (QC m) (fun _ h hz => ⟨h, hz⟩)

end Cert.Proof.KernelIdealRun

end
-- ==== Proof.KernelIdealEnd.lean ====
/-
  The end of a run read at the arrays the claims name: the arguments as they were, the result in closed form.
-/
module

public import proofs.«01_k».proof.Proof.KernelIdealMain
public import proofs.«01_k».proof.Proof.Words

@[expose] public section

noncomputable section

namespace Cert.Proof.KernelIdealRun

open Cert.KernelIdeal Cert.KernelIdeal.Gen

open Idealize.ShloMosaic Idealize.ShloMosaic.TcCoe Idealize.SL.Sem

variable {F : FTy → Type}
variable (m : (ℓ : Loc nD τ sig) → Buf (Elt F) ℓ) (ρ : Dev nD → PrngReg)
variable [FloatOps F]

/-- An array none of the program's three steps writes is at its launch contents. -/
theorem val₃_kept (d : Dev nD) (b : Ref sig .tc) (h0 : b ≠ main_v0) (h1 : b ≠ main_v1) (h2 : b ≠ main_v2) :
    val₃ m d (Proc.devRef .tc b) = m (d, Proc.devRef .tc b) := by
  unfold val₃ headVal
  rw [Function.update_of_ne (StableHlo.devRef_ne_of_ne h2)]
  unfold val₂ biasOp
  rw [StableHlo.reshape_result_ne _ _ _ _ _ _ _ h1]
  unfold val₁
  rw [Function.update_of_ne (StableHlo.devRef_ne_of_ne h0)]
  rfl

/-- The result array of device `d` in closed form: the head of the gathered rows. -/
def resOf (d : Dev nD) : S16384x1000.Idx → Elt F .f32 :=
  headOut (gath m d) (m (d, Proc.devRef .tc main_arg2))
    (shapeCast S1x1000 (m (d, Proc.devRef .tc main_arg3) : S1000.Idx → Elt F .f32) shapeCasts_S1000_S1x1000)

/-- The result array ends there. -/
theorem val₃_res (d : Dev nD) : val₃ m d (Proc.devRef .tc main_v2) = resOf m d := by
  have e0 : embOf (val₂ m d) = gath m d := by
    unfold embOf val₂ biasOp
    rw [StableHlo.reshape_result_ne _ _ _ _ _ _ _ (show main_v0 ≠ main_v1 by decide)]
    exact Function.update_self _ _ _
  have e2 : wgtOf (val₂ m d) = m (d, Proc.devRef .tc main_arg2) := by
    unfold wgtOf val₂ biasOp
    rw [StableHlo.reshape_result_ne _ _ _ _ _ _ _ (show main_arg2 ≠ main_v1 by decide)]
    exact Function.update_of_ne (show Proc.devRef (τ := τ) (sig := sig) .tc main_arg2 ≠ Proc.devRef .tc main_v0 by decide) _ _
  have e1 : rowB (val₂ m d) = shapeCast S1x1000 (m (d, Proc.devRef .tc main_arg3) : S1000.Idx → Elt F .f32) shapeCasts_S1000_S1x1000 := by
    unfold rowB val₂ biasOp
    rw [StableHlo.reshape_result]
    rw [show val₁ m d (Proc.devRef .tc main_arg3) = m (d, Proc.devRef .tc main_arg3) from
      Function.update_of_ne (show Proc.devRef (τ := τ) (sig := sig) .tc main_arg3 ≠ Proc.devRef .tc main_v0 by decide) _ _]
    rfl
  unfold val₃ headVal
  rw [Function.update_self, e0, e1, e2]
  rfl

/-- The arrays the claims name at the end of a run. -/
theorem run_end [∀ e, Nonempty (Elt F e)] (hpre : PreOK m) :
    θ_run (Cert.KernelIdeal.defs (F := F)) (Cert.KernelIdeal.threads (F := F)) ⟨m, fun _ => 0, ρ⟩ (fun r =>
      (∀ d : Dev nD, r.2.mem ((d.tc : Thread nD τ).loc main_v2) = resOf m d
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3))
      ∧ r.2.sem = fun _ => 0) :=
  (θ_run Cert.KernelIdeal.defs _ _).mono (fun _ h => ⟨fun d =>
    ⟨(h.1 d (Proc.devRef .tc main_v2) (by decide)).trans (val₃_res m d),
      (h.1 d (Proc.devRef .tc main_arg0) (by decide)).trans (val₃_kept m d main_arg0 (by decide) (by decide) (by decide)),
      (h.1 d (Proc.devRef .tc main_arg1) (by decide)).trans (val₃_kept m d main_arg1 (by decide) (by decide) (by decide)),
      (h.1 d (Proc.devRef .tc main_arg2) (by decide)).trans (val₃_kept m d main_arg2 (by decide) (by decide) (by decide)),
      (h.1 d (Proc.devRef .tc main_arg3) (by decide)).trans (val₃_kept m d main_arg3 (by decide) (by decide) (by decide))⟩, h.2⟩)
    (run_main m ρ hpre)

end Cert.Proof.KernelIdealRun

end
-- ==== Proof.Frames.lean ====
/-
  The runs of the three programs: each ends, its arguments as they were and every semaphore at zero.
-/
module

public import proofs.«01_k».proof.Defs
public import proofs.«01_k».proof.Proof.KernelEnd
public import proofs.«01_k».proof.Proof.KernelIdealEnd
public import proofs.«01_k».proof.Proof.Words
public import proofs.«01_k».proof.Proof.Gen.ReferenceIdeal.Run
public import Idealize.ShloMosaic.Lib.Quiescent

@[expose] public section

noncomputable section

namespace Cert.Proof

open Idealize.ShloMosaic Idealize.SL.Sem

/-- The kernel's row numbers name rows of the table. -/
theorem words_kernel {m : (ℓ : Loc Cert.Kernel.nD Cert.Kernel.τ Cert.Kernel.sig) → Buf (Elt Bits) ℓ} (h : Cert.Pre_Kernel m) :
    KernelRun.PreOK m := fun d j => words_lt _ _ _ _ (h d) j

/-- The idealized kernel's likewise. -/
theorem words_ideal {m : (ℓ : Loc Cert.KernelIdeal.nD Cert.KernelIdeal.τ Cert.KernelIdeal.sig) → Buf (Elt Ideal) ℓ} (h : Cert.Pre_KernelIdeal m) :
    KernelIdealRun.PreOK m := fun d j => words_lt _ _ _ _ (h d) j

/-- `Cert.quiescent_Kernel` (Defs.lean). -/
theorem frame_kernel : Cert.quiescent_Kernel := fun m g h =>
  (θ_run Cert.Kernel.defs _ _).mono (fun _ e => ⟨fun c => (e.1 c).2, e.2⟩) (KernelRun.run_end (F := Bits) m g (words_kernel h))

/-- `Cert.quiescent_KernelIdeal` (Defs.lean). -/
theorem frame_ideal : Cert.quiescent_KernelIdeal := fun m g h =>
  (θ_run Cert.KernelIdeal.defs _ _).mono (fun _ e => ⟨fun c => (e.1 c).2, e.2⟩) (KernelIdealRun.run_end (F := Ideal) m g (words_ideal h))

/-- `Cert.quiescent_ReferenceIdeal` (Defs.lean): the reference declares no semaphore. -/
theorem frame_reference : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)

end Cert.Proof

end
-- ==== Proof.Scores.lean ====
/-
  The mathematics both programs compute for one row: its scores and their log-softmax.
-/
module

public import Idealize.ShloMosaic.Lib.Pointwise

@[expose] public section

noncomputable section

namespace Cert.Proof.Equation

open Idealize.ShloMosaic

/-- The greatest of a row's scores, from the word for −∞. -/
def top (z : Fin 1000 → EReal) : EReal := Finset.univ.fold max (Ideal.ofBits .f32 0xFF800000#32) z

/-- The greatest is at least the word it starts from, so taking the maximum with that word again changes nothing. -/
theorem max_top (z : Fin 1000 → EReal) : max (Ideal.ofBits .f32 0xFF800000#32) (top z) = top z :=
  max_eq_right ((Finset.le_fold_max _).2 (.inl le_rfl))

/-- A row's log-softmax at entry `l`. -/
def lsm (z : Fin 1000 → EReal) (l : Fin 1000) : EReal := z l - top z - Ideal.log (∑ k, Ideal.exp (z k - top z))

/-- The score of row `r` for output `n`: the product of output `n`'s weights with the table's row that row number `r` names, and `n`'s bias. -/
def score (x : (⟨1, ![16384]⟩ : Shape).Idx → BitVec 32) (T : (⟨2, ![100000, 128]⟩ : Shape).Idx → EReal) (W : (⟨2, ![1000, 128]⟩ : Shape).Idx → EReal)
    (b : (⟨1, ![1000]⟩ : Shape).Idx → EReal) (r : Fin 16384) (n : Fin 1000) : EReal :=
  ∑ k : Fin 128, T (ix2 ⟨(x (ix1 r)).toNat % 100000, Nat.mod_lt _ (by decide)⟩ k) * W (ix2 n k) + b (ix1 n)

end Cert.Proof.Equation

end
-- ==== Proof.HeadKernel.lean ====
/-
  The kernel's result read at one place: the log-softmax of one row's scores.
-/
module

public import proofs.«01_k».proof.Proof.KernelIdealEnd
public import proofs.«01_k».proof.Proof.Scores
public import Idealize.ShloMosaic.Lib.Pointwise

@[expose] public section

noncomputable section

namespace Cert.Proof.Equation

open Cert.KernelIdeal Cert.KernelIdeal.Gen Cert.Proof.KernelIdealRun
open Idealize.ShloMosaic Idealize.ShloMosaic.Pointwise Idealize.ShloMosaic.TcCoe

set_option maxRecDepth 16384 in
/-- The body's payload at row `q` of its block, output `l`: the log-softmax of that row's scores. -/
theorem pay_apply (X : FVec Ideal S1024x128 .f32) (W : FVec Ideal S1000x128 .f32) (B : FVec Ideal S1x1000 .f32) (q : Fin 1024) (l : Fin 1000) :
    k1_pay1 (F := Ideal) X W B (ix2 q l) = lsm (fun n => ∑ k : Fin 128, X (ix2 q k) * W (ix2 n k) + B (ix2 0 n)) l := by
  pointwise [k1_pay1]
  rfl

/-- The row of the whole array that row `r mod 1024` of block `r / 1024` is: row `r`. -/
theorem rows_apply (E : FVec Ideal S16384x128 .f32) (r : Fin 16384) (l : Fin 1000) (k : Fin 128) :
    rowsOf (F := Ideal) E (blkOf (ix2 r l)) (ix2 ⟨r.val % 1024, Nat.mod_lt _ (by decide)⟩ k) = E (ix2 r k) := by
  unfold rowsOf
  congr 1
  funext a
  match a with
  | 0 => exact Fin.ext (by show r.val / 1024 * 1024 + r.val % 1024 = r.val; omega)
  | 1 => rfl

/-- The place in its block of the entry at row `r`, output `l`. -/
theorem place_apply (r : Fin 16384) (l : Fin 1000) : placeOf (ix2 r l) = ix2 ⟨r.val % 1024, Nat.mod_lt _ (by decide)⟩ l := by
  funext a
  match a with
  | 0 => rfl
  | 1 => rfl

/-- The head's result at row `r`, output `l`: the log-softmax of row `r`'s scores. -/
theorem head_apply (E : FVec Ideal S16384x128 .f32) (W : FVec Ideal S1000x128 .f32) (B : FVec Ideal S1x1000 .f32) (r : Fin 16384) (l : Fin 1000) :
    headOut (F := Ideal) E W B (ix2 r l) = lsm (fun n => ∑ k : Fin 128, E (ix2 r k) * W (ix2 n k) + B (ix2 0 n)) l := by
  unfold headOut
  rw [place_apply, pay_apply]
  simp only [rows_apply]

/-- The row of the table that the kernel's gather puts at row `r`. -/
theorem gath_apply (m : (ℓ : Loc nD τ sig) → Buf (Elt Ideal) ℓ) (c : Dev nD) (r : Fin 16384) (k : Fin 128) :
    (gath m c : FVec Ideal S16384x128 .f32) (ix2 r k) = (m (c, Proc.devRef .tc main_arg1) : FVec Ideal S100000x128 .f32)
      (ix2 ⟨((m (c, Proc.devRef .tc main_arg0) : IVec S16384 32) (ix1 r)).toNat % 100000, Nat.mod_lt _ (by decide)⟩ k) := by
  unfold gath
  have h1 : rowIx (ix2 (n0 := 16384) (n1 := 128) r k 0) = ix1 r := by
    funext a; match a with | 0 => rfl
  have h2 : ∀ w : BitVec 32, tabIdx w k = ix2 ⟨w.toNat % 100000, Nat.mod_lt _ (by decide)⟩ k := fun w => by
    funext a; match a with | 0 => rfl | 1 => rfl
  rw [h1]
  exact congrArg _ (h2 _)

/-- The bias as a row. -/
theorem bias_apply (b : FVec Ideal S1000 .f32) (n : Fin 1000) : shapeCast S1x1000 b shapeCasts_S1000_S1x1000 (ix2 0 n) = b (ix1 n) := by
  pointwise

/-- The kernel's result at row `r`, output `l`. -/
theorem res_apply (m : (ℓ : Loc nD τ sig) → Buf (Elt Ideal) ℓ) (c : Dev nD) (r : Fin 16384) (l : Fin 1000) :
    (resOf m c : FVec Ideal S16384x1000 .f32) (ix2 r l) = lsm (score (m (c, Proc.devRef .tc main_arg0)) (m (c, Proc.devRef .tc main_arg1))
      (m (c, Proc.devRef .tc main_arg2)) (m (c, Proc.devRef .tc main_arg3)) r) l := by
  unfold resOf
  rw [head_apply]
  congr 1
  funext n
  unfold score
  rw [bias_apply]
  refine congrArg (· + _) (Finset.sum_congr rfl fun k _ => ?_)
  rw [gath_apply]

end Cert.Proof.Equation

end
-- ==== Proof.HeadReference.lean ====
/-
  The reference's result read at one place: the log-softmax of one row's scores.
-/
module

public import proofs.«01_k».proof.Proof.Gen.ReferenceIdeal.Run
public import proofs.«01_k».proof.Proof.Scores
public import Idealize.ShloMosaic.Lib.Pointwise
public import Idealize.ShloMosaic.Lib.ReduceAll
public import Idealize.ShloMosaic.Lib.WordCmp
public import Idealize.ShloMosaic.Lib.Routing.Ops

@[expose] public section

noncomputable section

namespace Cert.Proof.Equation

open Cert.ReferenceIdeal Cert.ReferenceIdeal.Gen
open Idealize.ShloMosaic Idealize.ShloMosaic.Pointwise Idealize.ShloMosaic.StableHlo Idealize.ShloMosaic.TcCoe

/-- The row numbers the reference gathers by: a negative one counts from the table's end. -/
def refIx (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 100000#32))) x)

/-- The rows the reference gathers. -/
def refTake (x : IVec S16384 32) (T : FVec Ideal S100000x128 .f32) : FVec Ideal S16384x128 .f32 :=
  select (broadcastInDim S16384x128 ![0] bcast_S16384_S16384x128_0 (Host.reduce IntOp.andi
      (andi (cmpi .sge (refIx x) (broadcastInDim S16384x1 ![] bcast_S_S16384x1 (constantI S_ 32 0#32)))
        (cmpi .sle (refIx x) (broadcastInDim S16384x1 ![0, 1] bcast_S1x1_S16384x1_0_1 (broadcastInDim S1x1 ![1] bcast_S1_S1x1_1 (constantI S1 32 99999#32)))))
      (constantI S_ 1 1#1) reducesTo_S16384x1_S16384_d1 h_S_))
    (Host.gather gather_S100000x128_S16384x1_S16384x128_1_0_n_n_0_1_1128 T (refIx x))
    (broadcastInDim S16384x128 ![] bcast_S_S16384x128 (constant S_ .f32 0x7FC00000#32))

/-- The reference's scores of the rows `E`. -/
def refScore (E : FVec Ideal S16384x128 .f32) (W : FVec Ideal S1000x128 .f32) (b : FVec Ideal S1000 .f32) : FVec Ideal S16384x1000 .f32 :=
  addf (Host.dotGeneral dot_S16384x128_S128x1000_S16384x1000_1_0_0_1_n_n none E (transpose S128x1000 [1, 0] W transposes_S1000x128_S128x1000_1_0))
    (broadcastInDim S16384x1000 ![0, 1] bcast_S1x1000_S16384x1000_0_1 (broadcastInDim S1x1000 ![1] bcast_S1000_S1x1000_1 b))

/-- The scores with each row's greatest taken off. -/
def refShift (Z : FVec Ideal S16384x1000 .f32) : FVec Ideal S16384x1000 .f32 :=
  subf Z (broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32))
      (Host.reduce FloatOps.maximumf Z (constant S_ .f32 0xFF800000#32) reducesTo_S16384x1000_S16384_d1 h_S_))))

/-- The reference's last steps: each row's logarithm of summed exponentials taken off. -/
def refTail (S : FVec Ideal S16384x1000 .f32) : FVec Ideal S16384x1000 .f32 :=
  subf S (broadcastInDim S16384x1000 ![0, 1] bcast_S16384x1_S16384x1000_0_1 (Host.log (broadcastInDim S16384x1 ![0] bcast_S16384_S16384x1_0
    (Host.reduceAdd (Host.exp S) (constant S_ .f32 0x00000000#32) reducesTo_S16384x1000_S16384_d1 h_S_))))

/-- The reference's result is those steps in turn. -/
theorem res_eq (m : (ℓ : Loc nD τ sig) → Buf (Elt Ideal) ℓ) (c : Dev nD) :
    Cert.ReferenceIdeal.Value.res_main_v6 m c = refTail (refShift (refScore
      (refTake (m ((c.tc : Thread nD τ).loc main_arg0)) (m ((c.tc : Thread nD τ).loc main_arg1))) (m ((c.tc : Thread nD τ).loc main_arg2))
      (m ((c.tc : Thread nD τ).loc main_arg3)))) := rfl

/-! ## The gather -/

/-- A row number below 100000, read signed, is not negative. -/
theorem word_not_neg (w : BitVec 32) (h : w.toNat < 100000) : IntOp.cmpi .slt w 0#32 = 0#1 := by
  have h1 : ¬ (IntOp.cmpi .slt w 0#32 = 1#1) := by
    simp only [IntOp.cmpi, WordCmp.ofBool_eq_one_iff, BitVec.slt_eq_decide, decide_eq_true_eq, BitVec.toInt_eq_toNat_cond, BitVec.toNat_ofNat,
      Nat.reducePow, Nat.reduceMod]
    omega
  revert h1
  generalize IntOp.cmpi .slt w 0#32 = b
  revert b
  decide

/-- A row number below 100000 lies between 0 and 99999, read signed. -/
theorem word_in (w : BitVec 32) (h : w.toNat < 100000) : IntOp.andi (IntOp.cmpi .sge w 0#32) (IntOp.cmpi .sle w 99999#32) = 1#1 := by
  simp only [IntOp.cmpi, WordCmp.andi_ofBool, WordCmp.ofBool_eq_one_iff, Bool.and_eq_true, BitVec.sle_eq_decide, decide_eq_true_eq,
    BitVec.toInt_eq_toNat_cond, BitVec.toNat_ofNat, Nat.reducePow, Nat.reduceMod]
  omega

/-- Where every row number is below 100000, the reference gathers by them as they are. -/
theorem ix_apply (x : IVec S16384 32) (hx : ∀ j, (x j).toNat < 100000) (r : Fin 16384) (z : Fin 1) : refIx x (ix2 r z) = x (ix1 r) := by
  have h : refIx x (ix2 r z) = Scalar.select (IntOp.cmpi .slt (x (ix1 r)) 0#32) (IntOp.addi (x (ix1 r)) 100000#32) (x (ix1 r)) := by
    pointwise [refIx]
  rw [h, word_not_neg _ (hx _)]
  rfl

/-- Where every row number is below 100000, every row passes the reference's range test. -/
theorem test_apply (x : IVec S16384 32) (hx : ∀ j, (x j).toNat < 100000) (r : Fin 16384) :
    Host.reduce IntOp.andi
      (andi (cmpi .sge (refIx x) (broadcastInDim S16384x1 ![] bcast_S_S16384x1 (constantI S_ 32 0#32)))
        (cmpi .sle (refIx x) (broadcastInDim S16384x1 ![0, 1] bcast_S1x1_S16384x1_0_1 (broadcastInDim S1x1 ![1] bcast_S1_S1x1_1 (constantI S1 32 99999#32)))))
      (constantI S_ 1 1#1) reducesTo_S16384x1_S16384_d1 h_S_ (ix1 r) = 1#1 := by
  refine Host.reduce_andi_one _ _ _ _ _ rfl fun i => ?_
  obtain ⟨a, z, rfl⟩ : ∃ (a : Fin 16384) (z : Fin 1), i = ix2 a z := ⟨_, _, eq_ix2 i⟩
  have h : ∀ (I : IVec S16384x1 32) (a : Fin 16384) (z : Fin 1),
      (andi (cmpi .sge I (broadcastInDim S16384x1 ![] bcast_S_S16384x1 (constantI S_ 32 0#32)))
        (cmpi .sle I (broadcastInDim S16384x1 ![0, 1] bcast_S1x1_S16384x1_0_1 (broadcastInDim S1x1 ![1] bcast_S1_S1x1_1 (constantI S1 32 99999#32))))) (ix2 a z)
      = IntOp.andi (IntOp.cmpi .sge (I (ix2 a z)) 0#32) (IntOp.cmpi .sle (I (ix2 a z)) 99999#32) := fun I a z => by
    pointwise
  rw [h, ix_apply x hx]
  exact word_in _ (hx _)

/-- Where every row number is below 100000, row `r` of what the reference gathers is the table's row that row number `r` names. -/
theorem take_apply (x : IVec S16384 32) (T : FVec Ideal S100000x128 .f32) (hx : ∀ j, (x j).toNat < 100000) (r : Fin 16384) (k : Fin 128) :
    refTake x T (ix2 r k) = T (ix2 ⟨(x (ix1 r)).toNat % 100000, Nat.mod_lt _ (by decide)⟩ k) := by
  have h : ∀ (M : IVec S16384 1) (G : FVec Ideal S16384x128 .f32),
      select (broadcastInDim S16384x128 ![0] bcast_S16384_S16384x128_0 M) G (broadcastInDim S16384x128 ![] bcast_S_S16384x128 (constant S_ .f32 0x7FC00000#32)) (ix2 r k)
      = Scalar.select (M (ix1 r)) (G (ix2 r k)) (Ideal.ofBits .f32 0x7FC00000#32) := fun M G => by
    pointwise
  unfold refTake
  rw [h, test_apply x hx]
  show Host.gather _ T (refIx x) (ix2 r k) = _
  rw [ix2_eq_valueIdx, ix2_eq_valueIdx]
  refine Routing.gather_row _ rfl rfl rfl rfl rfl T (refIx x) r k _ ?_ (by decide)
  rw [← ix2_eq_valueIdx, ix_apply x hx]
  have hr := hx (ix1 r)
  apply BitVec.eq_of_toNat_eq
  rw [BitVec.toNat_ofNat]
  show _ = (x (ix1 r)).toNat % 100000 % 2 ^ 32
  omega

/-! ## The log-softmax -/

set_option maxRecDepth 16384 in
/-- The score of row `r` for output `l`. -/
theorem score_apply (E : FVec Ideal S16384x128 .f32) (W : FVec Ideal S1000x128 .f32) (b : FVec Ideal S1000 .f32) (r : Fin 16384) (l : Fin 1000) :
    refScore E W b (ix2 r l) = ∑ k : Fin 128, E (ix2 r k) * W (ix2 l k) + b (ix1 l) := by
  pointwise [refScore]

/-- The greatest entry of row `r` of a two-axis array. -/
theorem rowMax {n k : Nat} (Z : FVec Ideal ⟨2, ![n, k]⟩ .f32) (c : FVec Ideal S_ .f32) (h : (⟨2, ![n, k]⟩ : Shape).ReducesTo [1] ⟨1, ![n]⟩) (hu : 0 < S_.numel)
    (r : Fin n) : Host.reduce FloatOps.maximumf Z c h hu (ix1 r) = Finset.univ.fold max (c (Shape.Idx.first hu)) fun l : Fin k => Z (ix2 r l) := by
  pointwise

set_option maxRecDepth 16384 in
/-- The greatest of row `r`'s scores. -/
theorem top_apply (Z : FVec Ideal S16384x1000 .f32) (r : Fin 16384) :
    Host.reduce FloatOps.maximumf Z (constant S_ .f32 0xFF800000#32) reducesTo_S16384x1000_S16384_d1 h_S_ (ix1 r) = top fun l => Z (ix2 r l) := by
  unfold top
  rw [rowMax]
  pointwise

set_option maxRecDepth 16384 in
/-- An array with one number per row taken off, at one place. -/
theorem sub_apply (Z : FVec Ideal S16384x1000 .f32) (M : FVec Ideal S16384 .f32) (r : Fin 16384) (l : Fin 1000) :
    subf Z (broadcastInDim S16384x1000 ![0, 1] bcast_S16384x1_S16384x1000_0_1 (broadcastInDim S16384x1 ![0] bcast_S16384_S16384x1_0 M)) (ix2 r l)
      = Z (ix2 r l) - M (ix1 r) := by
  pointwise

/-- The maximum with the word for −∞, at one place. -/
theorem floor_apply (M : FVec Ideal S16384 .f32) (r : Fin 16384) :
    (maximumf (broadcastInDim S16384 ![] bcast_S_S16384 (constant S_ .f32 0xFF800000#32)) M) (ix1 r) = max (Ideal.ofBits .f32 0xFF800000#32) (M (ix1 r)) := by
  pointwise

/-- A score with its row's greatest taken off. -/
theorem shift_apply (Z : FVec Ideal S16384x1000 .f32) (r : Fin 16384) (l : Fin 1000) :
    refShift Z (ix2 r l) = Z (ix2 r l) - top fun n => Z (ix2 r n) := by
  unfold refShift
  rw [sub_apply, floor_apply, top_apply, max_top]

set_option maxRecDepth 16384 in
/-- The logarithm of the row's summed exponentials taken off. -/
theorem tail_apply (Z : FVec Ideal S16384x1000 .f32) (r : Fin 16384) (l : Fin 1000) :
    refTail Z (ix2 r l) = Z (ix2 r l) - Ideal.log (∑ n : Fin 1000, Ideal.exp (Z (ix2 r n))) := by
  pointwise [refTail]

/-- The reference's result at row `r`, output `l`. -/
theorem ref_apply (m : (ℓ : Loc nD τ sig) → Buf (Elt Ideal) ℓ) (c : Dev nD)
    (hx : ∀ j, ((m ((c.tc : Thread nD τ).loc main_arg0) : IVec S16384 32) j).toNat < 100000) (r : Fin 16384) (l : Fin 1000) :
    (Cert.ReferenceIdeal.Value.res_main_v6 m c : FVec Ideal S16384x1000 .f32) (ix2 r l)
      = lsm (score (m ((c.tc : Thread nD τ).loc main_arg0)) (m ((c.tc : Thread nD τ).loc main_arg1)) (m ((c.tc : Thread nD τ).loc main_arg2))
          (m ((c.tc : Thread nD τ).loc main_arg3)) r) l := by
  rw [res_eq, tail_apply]
  simp only [shift_apply, score_apply, take_apply _ _ hx]
  rfl

end Cert.Proof.Equation

end
-- ==== Proof.Equation.lean ====
/-
  The two programs' results are the same numbers: both runs end with the kernel's result.
-/
module

public import proofs.«01_k».proof.Defs
public import proofs.«01_k».proof.Proof.Frames
public import proofs.«01_k».proof.Proof.HeadKernel
public import proofs.«01_k».proof.Proof.HeadReference

@[expose] public section

noncomputable section

namespace Cert.Proof

open Idealize.ShloMosaic Idealize.SL.Sem Idealize.ShloMosaic.TcCoe

/-- From memories whose arguments agree, with row numbers in range, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : KernelIdealRun.PreOK m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_main_v6 m' c : Cert.ReferenceIdeal.S16384x1000.Idx → EReal) = KernelIdealRun.resOf m c := by
  funext j
  obtain ⟨r, l, rfl⟩ : ∃ (r : Fin 16384) (l : Fin 1000), j = ix2 r l := ⟨_, _, eq_ix2 j⟩
  refine (Equation.ref_apply m' c (fun i => ?_) r l).trans ((?_ : _ = _).trans (Equation.res_apply m c r l).symm)
  · rw [h0]
    exact hpre c i
  · rw [h0, h1, h2, h3]

/-- `Cert.algebraic_KernelIdeal_ReferenceIdeal` (Defs.lean). -/
theorem algebraic : Cert.algebraic_KernelIdeal_ReferenceIdeal := fun m g m' g' hpre hargs =>
  ⟨fun c => KernelIdealRun.resOf m c,
    (θ_run Cert.KernelIdeal.defs _ _).mono (fun _ e => e.1) (KernelIdealRun.run_end (F := Ideal) m g (words_ideal hpre)),
    (θ_run Cert.ReferenceIdeal.defs _ _).mono
      (fun _ e c => ⟨(e c).1.trans (results_eq m m' (words_ideal hpre) c (hargs c).1 (hargs c).2.1 (hargs c).2.2.1 (hargs c).2.2.2), (e c).2⟩)
      (Cert.ReferenceIdeal.Value.run (F := Ideal) m' g')⟩

end Cert.Proof

end
-- ==== Proof.lean ====
/-
  The proof of `Cert.Claim`: the runs of the three programs (Proof/Frames.lean) and the equality of the
  two results (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_words_named
public import proofs.«01_k».proof.Proof.Frames
public import proofs.«01_k».proof.Proof.Equation

@[expose] public section

noncomputable section

namespace Cert.Proof

open Idealize.ShloMosaic Idealize.SL.Sem

/-- Every claim of Defs.lean. -/
theorem claim : Cert.Claim :=
  ⟨Cert.Kernel.Gen.facts, Cert.KernelIdeal.Gen.facts, Cert.ReferenceIdeal.Gen.facts, Cert.Pre_words_named.Gen.facts,
    frame_kernel, frame_ideal, frame_reference, fun m g _ => frame_reference m g trivial, trivial, algebraic⟩

end Cert.Proof

end
